-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_on_reachable_pre_finite [hKernelIdeal : Cert.KernelIdeal.Facts] [hReferenceIdeal : Cert.ReferenceIdeal.Facts] [hPre_finite : Cert.Pre_finite.Facts] [hOn_reachable : Cert.On_reachable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![2, 4096, 512]⟩ : Shape).Idx, (Cert.On_reachable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.KernelIdeal.nD Cert.KernelIdeal.τ).loc Cert.KernelIdeal.main_v1_0) i = v0 c i)
          ∧ (∀ i : (⟨5, ![2, 2, 16, 1024, 128]⟩ : Shape).Idx, (Cert.On_reachable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 i = 1#1 → r.2.mem ((c.tc : Thread Cert.KernelIdeal.nD Cert.KernelIdeal.τ).loc Cert.KernelIdeal.main_v1_1) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![2, 4096, 512]⟩ : Shape).Idx, (Cert.On_reachable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.ReferenceIdeal.nD Cert.ReferenceIdeal.τ).loc Cert.ReferenceIdeal.main_v38) i = v0 c i)
          ∧ (∀ i : (⟨5, ![2, 2, 16, 1024, 128]⟩ : Shape).Idx, (Cert.On_reachable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 i = 1#1 → r.2.mem ((c.tc : Thread Cert.ReferenceIdeal.nD Cert.ReferenceIdeal.τ).loc Cert.ReferenceIdeal.main_v98) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v31) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v34) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v31) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v34) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hOn_reachable : Cert.On_reachable.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_on_reachable_pre_finite (hKernelIdeal := hKernelIdeal) (hReferenceIdeal := hReferenceIdeal) (hPre_finite := hPre_finite) (hOn_reachable := hOn_reachable)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== On_reachable.lean ====
abbrev S2x4096x4096 : Shape := ⟨3, ![2, 4096, 4096]⟩
abbrev S2x64x256 : Shape := ⟨3, ![2, 64, 256]⟩
abbrev S4096 : Shape := ⟨1, ![4096]⟩
abbrev S1x1x16x1x256x1 : Shape := ⟨6, ![1, 1, 16, 1, 256, 1]⟩
abbrev S128 : Shape := ⟨1, ![128]⟩
abbrev S_ : Shape := ⟨0, ![]⟩
abbrev S2 : Shape := ⟨1, ![2]⟩
abbrev S1x2x1x1x1x1 : Shape := ⟨6, ![1, 2, 1, 1, 1, 1]⟩
abbrev S1x1x1x1x1x128 : Shape := ⟨6, ![1, 1, 1, 1, 1, 128]⟩
abbrev S1x2x1x1x1x128 : Shape := ⟨6, ![1, 2, 1, 1, 1, 128]⟩
abbrev S1x1x16x1x256x128 : Shape := ⟨6, ![1, 1, 16, 1, 256, 128]⟩
abbrev S1x2x16x1x256x128 : Shape := ⟨6, ![1, 2, 16, 1, 256, 128]⟩
abbrev S2x2x16x4x256x128 : Shape := ⟨6, ![2, 2, 16, 4, 256, 128]⟩
abbrev S2x4096x512 : Shape := ⟨3, ![2, 4096, 512]⟩
abbrev S2x2x16x1024x128 : Shape := ⟨5, ![2, 2, 16, 1024, 128]⟩

class Facts : Prop where
  shapeCasts_S4096_S1x1x16x1x256x1 : S4096.ShapeCasts S1x1x16x1x256x1
  bcast_S_S128 : S_.BroadcastsInDim S128 (![] : Fin 0 → Fin S128.rank)
  shapeCasts_S2_S1x2x1x1x1x1 : S2.ShapeCasts S1x2x1x1x1x1
  bcast_S_S1x2x1x1x1x1 : S_.BroadcastsInDim S1x2x1x1x1x1 (![] : Fin 0 → Fin S1x2x1x1x1x1.rank)
  bcast_S128_S1x1x1x1x1x128_5 : S128.BroadcastsInDim S1x1x1x1x1x128 (![5] : Fin 1 → Fin S1x1x1x1x1x128.rank)
  bcast_S1x1x1x1x1x128_S1x2x1x1x1x128_0_1_2_3_4_5 : S1x1x1x1x1x128.BroadcastsInDim S1x2x1x1x1x128 (![0, 1, 2, 3, 4, 5] : Fin 6 → Fin S1x2x1x1x1x128.rank)
  bcast_S1x2x1x1x1x1_S1x2x1x1x1x128_0_1_2_3_4_5 : S1x2x1x1x1x1.BroadcastsInDim S1x2x1x1x1x128 (![0, 1, 2, 3, 4, 5] : Fin 6 → Fin S1x2x1x1x1x128.rank)
  bcast_S1x1x1x1x1x128_S1x1x16x1x256x128_0_1_2_3_4_5 : S1x1x1x1x1x128.BroadcastsInDim S1x1x16x1x256x128 (![0, 1, 2, 3, 4, 5] : Fin 6 → Fin S1x1x16x1x256x128.rank)
  bcast_S1x1x16x1x256x1_S1x1x16x1x256x128_0_1_2_3_4_5 : S1x1x16x1x256x1.BroadcastsInDim S1x1x16x1x256x128 (![0, 1, 2, 3, 4, 5] : Fin 6 → Fin S1x1x16x1x256x128.rank)
  bcast_S1x2x1x1x1x128_S1x2x16x1x256x128_0_1_2_3_4_5 : S1x2x1x1x1x128.BroadcastsInDim S1x2x16x1x256x128 (![0, 1, 2, 3, 4, 5] : Fin 6 → Fin S1x2x16x1x256x128.rank)
  bcast_S1x1x16x1x256x128_S1x2x16x1x256x128_0_1_2_3_4_5 : S1x1x16x1x256x128.BroadcastsInDim S1x2x16x1x256x128 (![0, 1, 2, 3, 4, 5] : Fin 6 → Fin S1x2x16x1x256x128.rank)
  bcast_S1x2x16x1x256x128_S2x2x16x4x256x128_0_1_2_3_4_5 : S1x2x16x1x256x128.BroadcastsInDim S2x2x16x4x256x128 (![0, 1, 2, 3, 4, 5] : Fin 6 → Fin S2x2x16x4x256x128.rank)
  bcast_S_S2x4096x512 : S_.BroadcastsInDim S2x4096x512 (![] : Fin 0 → Fin S2x4096x512.rank)
  shapeCasts_S2x2x16x4x256x128_S2x2x16x1024x128 : S2x2x16x4x256x128.ShapeCasts S2x2x16x1024x128

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S128 32) (arg1 : IVec S_ 32) : IVec S128 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S128 32 := broadcastInDim S128 ![] bcast_S_S128 v2
  let v4 : IVec S128 32 := Host.remsi arg0 v3
  let c_1 : IVec S_ 32 := constantI S_ 32 0#32
  let v5 : IVec S128 32 := broadcastInDim S128 ![] bcast_S_S128 c_1
  let v6 : IVec S128 1 := cmpi .ne v4 v5
  let c_2 : IVec S_ 32 := constantI S_ 32 0#32
  let v7 : IVec S128 32 := broadcastInDim S128 ![] bcast_S_S128 c_2
  let v8 : IVec S128 1 := cmpi .slt v4 v7
  let c_3 : IVec S_ 32 := constantI S_ 32 0#32
  let v9 : IVec S_ 1 := cmpi .slt v2 c_3
  let v10 : IVec S128 1 := broadcastInDim S128 ![] bcast_S_S128 v9
  let v11 : IVec S128 1 := cmpi .ne v8 v10
  let v12 : IVec S128 1 := andi v11 v6
  let v13 : IVec S128 32 := broadcastInDim S128 ![] bcast_S_S128 v2
  let v14 : IVec S128 32 := addi v4 v13
  let v15 : IVec S128 32 := select v12 v14 v4
  v15

def fn_part1 {F : FTy → Type} [FloatOps F] (main_v12 : IVec S1x2x1x1x1x128 1) (main_v18 : IVec S1x1x16x1x256x128 32) (main_v19 : IVec S1x1x16x1x256x128 32) : IVec S2x4096x512 1 × IVec S2x2x16x1024x128 1 :=
  let main_v20 : IVec S1x1x16x1x256x128 1 := cmpi .sle main_v18 main_v19
  let main_v21 : IVec S1x2x16x1x256x128 1 := broadcastInDim S1x2x16x1x256x128 ![0, 1, 2, 3, 4, 5] bcast_S1x2x1x1x1x128_S1x2x16x1x256x128_0_1_2_3_4_5 main_v12
  let main_v22 : IVec S1x2x16x1x256x128 1 := broadcastInDim S1x2x16x1x256x128 ![0, 1, 2, 3, 4, 5] bcast_S1x1x16x1x256x128_S1x2x16x1x256x128_0_1_2_3_4_5 main_v20
  let main_v23 : IVec S1x2x16x1x256x128 1 := ori main_v21 main_v22
  let main_v24 : IVec S2x2x16x4x256x128 1 := broadcastInDim S2x2x16x4x256x128 ![0, 1, 2, 3, 4, 5] bcast_S1x2x16x1x256x128_S2x2x16x4x256x128_0_1_2_3_4_5 main_v23
  let main_c_3 : IVec S_ 1 := constantI S_ 1 1#1
  let main_v25 : IVec S2x4096x512 1 := broadcastInDim S2x4096x512 ![] bcast_S_S2x4096x512 main_c_3
  let main_v26 : IVec S2x2x16x1024x128 1 := shapeCast S2x2x16x1024x128 main_v24 shapeCasts_S2x2x16x4x256x128_S2x2x16x1024x128
  (main_v25, main_v26)

def fn {F : FTy → Type} [FloatOps F] (main_arg0 : FVec F S2x4096x4096 .f32) (main_arg1 : FVec F S2x64x256 .f32) : IVec S2x4096x512 1 × IVec S2x2x16x1024x128 1 :=
  let main_v0 : IVec S4096 32 := iotaInDim S4096 32 0
  let main_v1 : IVec S1x1x16x1x256x1 32 := shapeCast S1x1x16x1x256x1 main_v0 shapeCasts_S4096_S1x1x16x1x256x1
  let main_v2 : IVec S128 32 := iotaInDim S128 32 0
  let main_c : IVec S_ 32 := constantI S_ 32 64#32
  let main_v3 : IVec S128 32 := broadcastInDim S128 ![] bcast_S_S128 main_c
  let main_v4 : IVec S128 1 := cmpi .slt main_v2 main_v3
  let main_v5 : IVec S2 32 := iotaInDim S2 32 0
  let main_v6 : IVec S1x2x1x1x1x1 32 := shapeCast S1x2x1x1x1x1 main_v5 shapeCasts_S2_S1x2x1x1x1x1
  let main_c_0 : IVec S_ 32 := constantI S_ 32 0#32
  let main_v7 : IVec S1x2x1x1x1x1 32 := broadcastInDim S1x2x1x1x1x1 ![] bcast_S_S1x2x1x1x1x1 main_c_0
  let main_v8 : IVec S1x2x1x1x1x1 1 := cmpi .eq main_v6 main_v7
  let main_v9 : IVec S1x1x1x1x1x128 1 := broadcastInDim S1x1x1x1x1x128 ![5] bcast_S128_S1x1x1x1x1x128_5 main_v4
  let main_v10 : IVec S1x2x1x1x1x128 1 := broadcastInDim S1x2x1x1x1x128 ![0, 1, 2, 3, 4, 5] bcast_S1x1x1x1x1x128_S1x2x1x1x1x128_0_1_2_3_4_5 main_v9
  let main_v11 : IVec S1x2x1x1x1x128 1 := broadcastInDim S1x2x1x1x1x128 ![0, 1, 2, 3, 4, 5] bcast_S1x2x1x1x1x1_S1x2x1x1x1x128_0_1_2_3_4_5 main_v8
  let main_v12 : IVec S1x2x1x1x1x128 1 := cmpi .eq main_v10 main_v11
  let main_v13 : IVec S128 32 := iotaInDim S128 32 0
  let main_c_1 : IVec S_ 32 := constantI S_ 32 64#32
  let main_v14 : IVec S128 32 := fn_remainder (F := F) main_v13 main_c_1
  let main_c_2 : IVec S_ 32 := constantI S_ 32 64#32
  let main_v15 : IVec S128 32 := broadcastInDim S128 ![] bcast_S_S128 main_c_2
  let main_v16 : IVec S128 32 := muli main_v14 main_v15
  let main_v17 : IVec S1x1x1x1x1x128 32 := broadcastInDim S1x1x1x1x1x128 ![5] bcast_S128_S1x1x1x1x1x128_5 main_v16
  let main_v18 : IVec S1x1x16x1x256x128 32 := broadcastInDim S1x1x16x1x256x128 ![0, 1, 2, 3, 4, 5] bcast_S1x1x1x1x1x128_S1x1x16x1x256x128_0_1_2_3_4_5 main_v17
  let main_v19 : IVec S1x1x16x1x256x128 32 := broadcastInDim S1x1x16x1x256x128 ![0, 1, 2, 3, 4, 5] bcast_S1x1x16x1x256x1_S1x1x16x1x256x128_0_1_2_3_4_5 main_v1
  fn_part1 (F := F) main_v12 main_v18 main_v19
-- ==== Pre_finite.lean ====
abbrev S2x4096x4096 : Shape := ⟨3, ![2, 4096, 4096]⟩
abbrev S2x64x256 : Shape := ⟨3, ![2, 64, 256]⟩
abbrev S2x4096x512 : Shape := ⟨3, ![2, 4096, 512]⟩
abbrev S_ : Shape := ⟨0, ![]⟩
abbrev S2x64x128 : Shape := ⟨3, ![2, 64, 128]⟩

class Facts : Prop where
  slices_S2x4096x4096_S2x4096x512_0_0_2560 : S2x4096x4096.Slices ![0, 0, 2560] S2x4096x512
  bcast_S_S2x4096x512 : S_.BroadcastsInDim S2x4096x512 (![] : Fin 0 → Fin S2x4096x512.rank)
  reducesTo_S2x4096x512_S_d0_1_2 : S2x4096x512.ReducesTo [0, 1, 2] S_
  h_S_ : 0 < S_.numel
  slices_S2x64x256_S2x64x128_0_0_0 : S2x64x256.Slices ![0, 0, 0] S2x64x128
  bcast_S_S2x64x128 : S_.BroadcastsInDim S2x64x128 (![] : Fin 0 → Fin S2x64x128.rank)
  reducesTo_S2x64x128_S_d0_1_2 : S2x64x128.ReducesTo [0, 1, 2] S_

variable [Facts]

def fn {F : FTy → Type} [FloatOps F] (main_arg0 : FVec F S2x4096x4096 .f32) (main_arg1 : FVec F S2x64x256 .f32) : IVec S_ 1 × IVec S_ 1 :=
  let main_v0 : FVec F S2x4096x512 .f32 := (extractStridedSlice S2x4096x512 ![0, 0, 2560] · slices_S2x4096x4096_S2x4096x512_0_0_2560) main_arg0
  let main_v1 : FVec F S2x4096x512 .f32 := Host.absf main_v0
  let main_cst : FVec F S_ .f32 := constant S_ .f32 0x7F800000#32
  let main_v2 : FVec F S2x4096x512 .f32 := broadcastInDim S2x4096x512 ![] bcast_S_S2x4096x512 main_cst
  let main_v3 : IVec S2x4096x512 1 := cmpf .olt main_v1 main_v2
  let main_c : IVec S_ 1 := constantI S_ 1 1#1
  let main_v4 : IVec S_ 1 := (fun x v => Host.reduce IntOp.andi x v reducesTo_S2x4096x512_S_d0_1_2 h_S_) main_v3 main_c
  let main_v5 : FVec F S2x64x128 .f32 := (extractStridedSlice S2x64x128 ![0, 0, 0] · slices_S2x64x256_S2x64x128_0_0_0) main_arg1
  let main_v6 : FVec F S2x64x128 .f32 := Host.absf main_v5
  let main_cst_0 : FVec F S_ .f32 := constant S_ .f32 0x7F800000#32
  let main_v7 : FVec F S2x64x128 .f32 := broadcastInDim S2x64x128 ![] bcast_S_S2x64x128 main_cst_0
  let main_v8 : IVec S2x64x128 1 := cmpf .olt main_v6 main_v7
  let main_c_1 : IVec S_ 1 := constantI S_ 1 1#1
  let main_v9 : IVec S_ 1 := (fun x v => Host.reduce IntOp.andi x v reducesTo_S2x64x128_S_d0_1_2 h_S_) main_v8 main_c_1
  (main_v4, main_v9)
-- ==== Kernel.lean ====
abbrev S2x4096x4096 : Shape := ⟨3, ![2, 4096, 4096]⟩
abbrev S2x64x256 : Shape := ⟨3, ![2, 64, 256]⟩
abbrev S_ : Shape := ⟨0, ![]⟩
abbrev S2x128x256 : Shape := ⟨3, ![2, 128, 256]⟩
abbrev S2x4096x512 : Shape := ⟨3, ![2, 4096, 512]⟩
abbrev S2x2x16x1024x128 : Shape := ⟨5, ![2, 2, 16, 1024, 128]⟩
abbrev S1x256x256 : Shape := ⟨3, ![1, 256, 256]⟩
abbrev S1x128x256 : Shape := ⟨3, ![1, 128, 256]⟩
abbrev S1x1x1x1024x128 : Shape := ⟨5, ![1, 1, 1, 1024, 128]⟩
abbrev S64x256 : Shape := ⟨2, ![64, 256]⟩
abbrev S256x256 : Shape := ⟨2, ![256, 256]⟩
abbrev S256x64 : Shape := ⟨2, ![256, 64]⟩
abbrev S1024x64 : Shape := ⟨2, ![1024, 64]⟩
abbrev S128x128 : Shape := ⟨2, ![128, 128]⟩
abbrev S256x128 : Shape := ⟨2, ![256, 128]⟩
abbrev S64x1024 : Shape := ⟨2, ![64, 1024]⟩
abbrev S128x256 : Shape := ⟨2, ![128, 256]⟩
abbrev S128x64 : Shape := ⟨2, ![128, 64]⟩
abbrev S64x64 : Shape := ⟨2, ![64, 64]⟩
abbrev S1024 : Shape := ⟨1, ![1024]⟩
abbrev S1x1024 : Shape := ⟨2, ![1, 1024]⟩
abbrev S128x1024 : Shape := ⟨2, ![128, 1024]⟩
abbrev S1024x128 : Shape := ⟨2, ![1024, 128]⟩
abbrev S1x256 : Shape := ⟨2, ![1, 256]⟩

abbrev nBuf : Space → Nat
  | .hbm => 7
  | .vmem => 9
  | .smem => 0
  | _ => 0

abbrev bufTy : (tb : Table) → Fin (tcTables nBuf tb) → BufTy
  | .hbm, ⟨0, _⟩ => ⟨S2x4096x4096, .f32⟩
  | .hbm, ⟨1, _⟩ => ⟨S2x64x256, .f32⟩
  | .hbm, ⟨2, _⟩ => ⟨S_, .i32⟩
  | .hbm, ⟨3, _⟩ => ⟨S_, .f32⟩
  | .hbm, ⟨4, _⟩ => ⟨S2x128x256, .f32⟩
  | .hbm, ⟨5, _⟩ => ⟨S2x4096x512, .f32⟩
  | .hbm, ⟨6, _⟩ => ⟨S2x2x16x1024x128, .bf16⟩
  | .local _ .vmem, ⟨0, _⟩ => ⟨S1x256x256, .f32⟩
  | .local _ .vmem, ⟨1, _⟩ => ⟨S1x256x256, .f32⟩
  | .local _ .vmem, ⟨2, _⟩ => ⟨S1x128x256, .f32⟩
  | .local _ .vmem, ⟨3, _⟩ => ⟨S1x128x256, .f32⟩
  | .local _ .vmem, ⟨4, _⟩ => ⟨S1x256x256, .f32⟩
  | .local _ .vmem, ⟨5, _⟩ => ⟨S1x256x256, .f32⟩
  | .local _ .vmem, ⟨6, _⟩ => ⟨S1x1x1x1024x128, .bf16⟩
  | .local _ .vmem, ⟨7, _⟩ => ⟨S1x1x1x1024x128, .bf16⟩
  | .local _ .vmem, ⟨8, _⟩ => ⟨S64x256, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 16], ![false, false, false]⟩

@[reducible] def k0_t1_loop (i : grid0.Coords) : Scf.Loop 32 :=
  let c0_i32_59 : BitVec 32 := 0#32
  let arg2 : BitVec 32 := BitVec.ofNat 32 (i 2).val
  let c256_i32_46 : BitVec 32 := 256#32
  let v189 : BitVec 32 := Scalar.muli arg2 c256_i32_46
  let c256_i32_47 : BitVec 32 := 256#32
  let v190 : BitVec 32 := Scalar.addi v189 c256_i32_47
  let c1_i32_48 : BitVec 32 := 1#32
  let v191 : BitVec 32 := Scalar.subi v190 c1_i32_48
  let c0_i32_50 : BitVec 32 := 0#32
  let v193 : BitVec 1 := Scalar.cmpi .sgt v191 c0_i32_50
  let v194 : BitVec 32 := Scalar.extui v193
  let c0_i32_51 : BitVec 32 := 0#32
  let v195 : BitVec 1 := Scalar.cmpi .slt v191 c0_i32_51
  let v196 : BitVec 32 := Scalar.extui v195
  let v197 : BitVec 32 := Scalar.subi v194 v196
  let c64_i32_49 : BitVec 32 := 64#32
  let c0_i32_52 : BitVec 32 := 0#32
  let v198 : BitVec 1 := Scalar.cmpi .sgt c64_i32_49 c0_i32_52
  let v199 : BitVec 32 := Scalar.extui v198
  let c0_i32_53 : BitVec 32 := 0#32
  let v200 : BitVec 1 := Scalar.cmpi .slt c64_i32_49 c0_i32_53
  let v201 : BitVec 32 := Scalar.extui v200
  let v202 : BitVec 32 := Scalar.subi v199 v201
  let v203 : BitVec 1 := Scalar.cmpi .ne v197 v202
  let v204 : BitVec 32 := Scalar.remsi v191 c64_i32_49
  let c0_i32_54 : BitVec 32 := 0#32
  let v205 : BitVec 1 := Scalar.cmpi .ne v204 c0_i32_54
  let v206 : BitVec 1 := Scalar.andi v203 v205
  let v192 : BitVec 32 := Scalar.divsi v191 c64_i32_49
  let c1_i32_55 : BitVec 32 := 1#32
  let v207 : BitVec 32 := Scalar.subi v192 c1_i32_55
  let v208 : BitVec 32 := Scalar.select v206 v207 v192
  let c1_i32_56 : BitVec 32 := 1#32
  let v209 : BitVec 32 := Scalar.addi v208 c1_i32_56
  let c64_i32_57 : BitVec 32 := 64#32
  let v210 : BitVec 32 := Scalar.minsi v209 c64_i32_57
  let v212 : BitVec 32 := Scalar.subi v210 c0_i32_59
  let c1_i32_60 : BitVec 32 := 1#32
  let v214 : BitVec 32 := Scalar.divsi v212 c1_i32_60
  let v215 : BitVec 32 := Scalar.muli v214 c1_i32_60
  let v216 : BitVec 32 := Scalar.addi c0_i32_59 v215
  let c1_i32_61 : BitVec 32 := 1#32
  ⟨c0_i32_59, v216, c1_i32_61⟩
def k0_off1 (i : grid0.Coords) (k0_t1 : Fin (k0_t1_loop i).trips) : Fin 2 → Nat :=
  let c0_i32_59 : BitVec 32 := 0#32
  let c1_i32_61 : BitVec 32 := 1#32
  let arg8 : BitVec 32 := Scf.iv c0_i32_59 c1_i32_61 k0_t1
  let v243 : Index := Scalar.indexCast arg8
  let c0_73 : Index := 0#32
  ![v243.toNat, 0]
@[reducible] def k0_t2_loop (i : grid0.Coords) : Scf.Loop 32 :=
  let c0_i32_59 : BitVec 32 := 0#32
  let arg2 : BitVec 32 := BitVec.ofNat 32 (i 2).val
  let c256_i32_46 : BitVec 32 := 256#32
  let v189 : BitVec 32 := Scalar.muli arg2 c256_i32_46
  let c256_i32_47 : BitVec 32 := 256#32
  let v190 : BitVec 32 := Scalar.addi v189 c256_i32_47
  let c1_i32_48 : BitVec 32 := 1#32
  let v191 : BitVec 32 := Scalar.subi v190 c1_i32_48
  let c0_i32_50 : BitVec 32 := 0#32
  let v193 : BitVec 1 := Scalar.cmpi .sgt v191 c0_i32_50
  let v194 : BitVec 32 := Scalar.extui v193
  let c0_i32_51 : BitVec 32 := 0#32
  let v195 : BitVec 1 := Scalar.cmpi .slt v191 c0_i32_51
  let v196 : BitVec 32 := Scalar.extui v195
  let v197 : BitVec 32 := Scalar.subi v194 v196
  let c64_i32_49 : BitVec 32 := 64#32
  let c0_i32_52 : BitVec 32 := 0#32
  let v198 : BitVec 1 := Scalar.cmpi .sgt c64_i32_49 c0_i32_52
  let v199 : BitVec 32 := Scalar.extui v198
  let c0_i32_53 : BitVec 32 := 0#32
  let v200 : BitVec 1 := Scalar.cmpi .slt c64_i32_49 c0_i32_53
  let v201 : BitVec 32 := Scalar.extui v200
  let v202 : BitVec 32 := Scalar.subi v199 v201
  let v203 : BitVec 1 := Scalar.cmpi .ne v197 v202
  let v204 : BitVec 32 := Scalar.remsi v191 c64_i32_49
  let c0_i32_54 : BitVec 32 := 0#32
  let v205 : BitVec 1 := Scalar.cmpi .ne v204 c0_i32_54
  let v206 : BitVec 1 := Scalar.andi v203 v205
  let v192 : BitVec 32 := Scalar.divsi v191 c64_i32_49
  let c1_i32_55 : BitVec 32 := 1#32
  let v207 : BitVec 32 := Scalar.subi v192 c1_i32_55
  let v208 : BitVec 32 := Scalar.select v206 v207 v192
  let c1_i32_56 : BitVec 32 := 1#32
  let v209 : BitVec 32 := Scalar.addi v208 c1_i32_56
  let c64_i32_57 : BitVec 32 := 64#32
  let v210 : BitVec 32 := Scalar.minsi v209 c64_i32_57
  let v212 : BitVec 32 := Scalar.subi v210 c0_i32_59
  let c1_i32_60 : BitVec 32 := 1#32
  let v214 : BitVec 32 := Scalar.divsi v212 c1_i32_60
  let v215 : BitVec 32 := Scalar.muli v214 c1_i32_60
  let v216 : BitVec 32 := Scalar.addi c0_i32_59 v215
  let v213 : BitVec 32 := Scalar.addi c0_i32_59 v212
  let c1_i32_62 : BitVec 32 := 1#32
  ⟨v216, v213, c1_i32_62⟩
def k0_off2 (i : grid0.Coords) (k0_t2 : Fin (k0_t2_loop i).trips) : Fin 2 → Nat :=
  let c0_i32_59 : BitVec 32 := 0#32
  let arg2 : BitVec 32 := BitVec.ofNat 32 (i 2).val
  let c256_i32_46 : BitVec 32 := 256#32
  let v189 : BitVec 32 := Scalar.muli arg2 c256_i32_46
  let c256_i32_47 : BitVec 32 := 256#32
  let v190 : BitVec 32 := Scalar.addi v189 c256_i32_47
  let c1_i32_48 : BitVec 32 := 1#32
  let v191 : BitVec 32 := Scalar.subi v190 c1_i32_48
  let c0_i32_50 : BitVec 32 := 0#32
  let v193 : BitVec 1 := Scalar.cmpi .sgt v191 c0_i32_50
  let v194 : BitVec 32 := Scalar.extui v193
  let c0_i32_51 : BitVec 32 := 0#32
  let v195 : BitVec 1 := Scalar.cmpi .slt v191 c0_i32_51
  let v196 : BitVec 32 := Scalar.extui v195
  let v197 : BitVec 32 := Scalar.subi v194 v196
  let c64_i32_49 : BitVec 32 := 64#32
  let c0_i32_52 : BitVec 32 := 0#32
  let v198 : BitVec 1 := Scalar.cmpi .sgt c64_i32_49 c0_i32_52
  let v199 : BitVec 32 := Scalar.extui v198
  let c0_i32_53 : BitVec 32 := 0#32
  let v200 : BitVec 1 := Scalar.cmpi .slt c64_i32_49 c0_i32_53
  let v201 : BitVec 32 := Scalar.extui v200
  let v202 : BitVec 32 := Scalar.subi v199 v201
  let v203 : BitVec 1 := Scalar.cmpi .ne v197 v202
  let v204 : BitVec 32 := Scalar.remsi v191 c64_i32_49
  let c0_i32_54 : BitVec 32 := 0#32
  let v205 : BitVec 1 := Scalar.cmpi .ne v204 c0_i32_54
  let v206 : BitVec 1 := Scalar.andi v203 v205
  let v192 : BitVec 32 := Scalar.divsi v191 c64_i32_49
  let c1_i32_55 : BitVec 32 := 1#32
  let v207 : BitVec 32 := Scalar.subi v192 c1_i32_55
  let v208 : BitVec 32 := Scalar.select v206 v207 v192
  let c1_i32_56 : BitVec 32 := 1#32
  let v209 : BitVec 32 := Scalar.addi v208 c1_i32_56
  let c64_i32_57 : BitVec 32 := 64#32
  let v210 : BitVec 32 := Scalar.minsi v209 c64_i32_57
  let v212 : BitVec 32 := Scalar.subi v210 c0_i32_59
  let c1_i32_60 : BitVec 32 := 1#32
  let v214 : BitVec 32 := Scalar.divsi v212 c1_i32_60
  let v215 : BitVec 32 := Scalar.muli v214 c1_i32_60
  let v216 : BitVec 32 := Scalar.addi c0_i32_59 v215
  let c1_i32_62 : BitVec 32 := 1#32
  let arg8 : BitVec 32 := Scf.iv v216 c1_i32_62 k0_t2
  let v243 : Index := Scalar.indexCast arg8
  let c0_73 : Index := 0#32
  ![v243.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.addi c10_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S2x4096x4096 : Shape := ⟨3, ![2, 4096, 4096]⟩
abbrev S2x64x256 : Shape := ⟨3, ![2, 64, 256]⟩
abbrev S2x4096x512 : Shape := ⟨3, ![2, 4096, 512]⟩
abbrev S2x64x128 : Shape := ⟨3, ![2, 64, 128]⟩
abbrev S2x64x2x64 : Shape := ⟨4, ![2, 64, 2, 64]⟩
abbrev S4096 : Shape := ⟨1, ![4096]⟩
abbrev S2x4096x2x4x64 : Shape := ⟨5, ![2, 4096, 2, 4, 64]⟩
abbrev S2x2x64x4096x4 : Shape := ⟨5, ![2, 2, 64, 4096, 4]⟩
abbrev S2x2x4x4096x64 : Shape := ⟨5, ![2, 2, 4, 4096, 64]⟩
abbrev S_ : Shape := ⟨0, ![]⟩
abbrev S64 : Shape := ⟨1, ![64]⟩
abbrev S1x64 : Shape := ⟨2, ![1, 64]⟩
abbrev S4096x1 : Shape := ⟨2, ![4096, 1]⟩
abbrev S4096x64 : Shape := ⟨2, ![4096, 64]⟩
abbrev S2x2x4x4096 : Shape := ⟨4, ![2, 2, 4, 4096]⟩
abbrev S2x2x4x4096x1 : Shape := ⟨5, ![2, 2, 4, 4096, 1]⟩
abbrev S2x2x64x4x4096 : Shape := ⟨5, ![2, 2, 64, 4, 4096]⟩
abbrev S2x2x4096x64 : Shape := ⟨4, ![2, 2, 4096, 64]⟩
abbrev S2x2x4096x16 : Shape := ⟨4, ![2, 2, 4096, 16]⟩
abbrev S2x2x4096x16x1 : Shape := ⟨5, ![2, 2, 4096, 16, 1]⟩
abbrev S1x1x1x1x64 : Shape := ⟨5, ![1, 1, 1, 1, 64]⟩
abbrev S2x2x4096x16x64 : Shape := ⟨5, ![2, 2, 4096, 16, 64]⟩
abbrev S2x2x1x4096x64 : Shape := ⟨5, ![2, 2, 1, 4096, 64]⟩
abbrev S2x1x4x4096x64 : Shape := ⟨5, ![2, 1, 4, 4096, 64]⟩
abbrev S2x4x4096x64 : Shape := ⟨4, ![2, 4, 4096, 64]⟩
abbrev S2x4x4096x128 : Shape := ⟨4, ![2, 4, 4096, 128]⟩
abbrev S2x1x4x4096x128 : Shape := ⟨5, ![2, 1, 4, 4096, 128]⟩
abbrev S2x2x4x4096x128 : Shape := ⟨5, ![2, 2, 4, 4096, 128]⟩
abbrev S2x2x4x16x256x128 : Shape := ⟨6, ![2, 2, 4, 16, 256, 128]⟩
abbrev S2x2x16x4x256x128 : Shape := ⟨6, ![2, 2, 16, 4, 256, 128]⟩
abbrev S2x2x16x1024x128 : Shape := ⟨5, ![2, 2, 16, 1024, 128]⟩

abbrev nBuf : Space → Nat
  | .hbm => 153
  | .vmem => 0
  | .smem => 0
  | _ => 0

abbrev hbmTy0_0 (i : Nat) : BufTy := match i % 128 with
  | 0 => ⟨S2x4096x4096, .f32⟩
  | 1 => ⟨S2x64x256, .f32⟩
  | 2 => ⟨S2x4096x512, .f32⟩
  | 3 => ⟨S2x64x128, .f32⟩
  | 4 => ⟨S2x64x2x64, .f32⟩
  | 5 => ⟨S2x64x128, .f32⟩
  | 6 => ⟨S2x64x2x64, .f32⟩
  | 7 => ⟨S4096, .i32⟩
  | 8 => ⟨S2x4096x2x4x64, .f32⟩
  | 9 => ⟨S2x2x64x4096x4, .f32⟩
  | 10 => ⟨S2x2x4x4096x64, .f32⟩
  | 11 => ⟨S_, .f32⟩
  | 12 => ⟨S2x2x4x4096x64, .f32⟩
  | 13 => ⟨S2x2x4x4096x64, .f32⟩
  | 14 => ⟨S64, .i32⟩
  | 15 => ⟨S_, .i32⟩
  | 16 => ⟨S64, .i32⟩
  | 17 => ⟨S64, .i32⟩
  | 18 => ⟨S_, .i32⟩
  | 19 => ⟨S64, .i32⟩
  | 20 => ⟨S64, .i32⟩
  | 21 => ⟨S_, .i32⟩
  | 22 => ⟨S64, .i32⟩
  | 23 => ⟨S64, .i32⟩
  | 24 => ⟨S1x64, .i32⟩
  | 25 => ⟨S4096x1, .i32⟩
  | 26 => ⟨S4096x64, .i32⟩
  | 27 => ⟨S4096x64, .i32⟩
  | 28 => ⟨S4096x64, .i1⟩
  | 29 => ⟨S_, .f32⟩
  | 30 => ⟨S_, .f32⟩
  | 31 => ⟨S2x2x4x4096x64, .i1⟩
  | 32 => ⟨S2x2x4x4096x64, .f32⟩
  | 33 => ⟨S2x2x4x4096x64, .f32⟩
  | 34 => ⟨S_, .f32⟩
  | 35 => ⟨S2x2x4x4096, .f32⟩
  | 36 => ⟨S_, .f32⟩
  | 37 => ⟨S2x2x4x4096, .f32⟩
  | 38 => ⟨S2x2x4x4096, .f32⟩
  | 39 => ⟨S2x2x4x4096x1, .f32⟩
  | 40 => ⟨S2x2x4x4096x64, .f32⟩
  | 41 => ⟨S2x2x4x4096x64, .f32⟩
  | 42 => ⟨S2x2x4x4096x64, .f32⟩
  | 43 => ⟨S_, .f32⟩
  | 44 => ⟨S2x2x4x4096, .f32⟩
  | 45 => ⟨S2x2x4x4096x1, .f32⟩
  | 46 => ⟨S2x2x4x4096x64, .f32⟩
  | 47 => ⟨S2x2x4x4096x64, .f32⟩
  | 48 => ⟨S_, .f32⟩
  | 49 => ⟨S_, .f32⟩
  | 50 => ⟨S2x2x4x4096x64, .i1⟩
  | 51 => ⟨S2x2x4x4096x64, .f32⟩
  | 52 => ⟨S2x2x4x4096x64, .f32⟩
  | 53 => ⟨S2x2x64x4x4096, .f32⟩
  | 54 => ⟨S2x4096x2x4x64, .f32⟩
  | 55 => ⟨S2x4096x512, .f32⟩
  | 56 => ⟨S_, .f32⟩
  | 57 => ⟨S2x2x4096x64, .f32⟩
  | 58 => ⟨S_, .i32⟩
  | 59 => ⟨S_, .i32⟩
  | 60 => ⟨S4096, .i32⟩
  | 61 => ⟨S4096, .i32⟩
  | 62 => ⟨S4096, .i32⟩
  | 63 => ⟨S_, .i32⟩
  | 64 => ⟨S4096, .i32⟩
  | 65 => ⟨S4096, .i1⟩
  | 66 => ⟨S4096, .i32⟩
  | 67 => ⟨S4096, .i32⟩
  | 68 => ⟨S_, .i32⟩
  | 69 => ⟨S4096, .i32⟩
  | 70 => ⟨S4096, .i1⟩
  | 71 => ⟨S4096, .i1⟩
  | 72 => ⟨S_, .i32⟩
  | 73 => ⟨S4096, .i32⟩
  | 74 => ⟨S4096, .i32⟩
  | 75 => ⟨S4096, .i32⟩
  | 76 => ⟨S1x64, .i32⟩
  | 77 => ⟨S_, .i32⟩
  | 78 => ⟨S1x64, .i32⟩
  | 79 => ⟨S1x64, .i1⟩
  | 80 => ⟨S1x64, .i32⟩
  | 81 => ⟨S4096x1, .i32⟩
  | 82 => ⟨S4096x64, .i32⟩
  | 83 => ⟨S4096x64, .i32⟩
  | 84 => ⟨S4096x64, .i1⟩
  | 85 => ⟨S4096x64, .i1⟩
  | 86 => ⟨S4096x64, .i1⟩
  | 87 => ⟨S1x64, .i32⟩
  | 88 => ⟨S4096x1, .i32⟩
  | 89 => ⟨S_, .i32⟩
  | 90 => ⟨S4096x1, .i32⟩
  | 91 => ⟨S4096x1, .i32⟩
  | 92 => ⟨S4096x64, .i32⟩
  | 93 => ⟨S4096x64, .i32⟩
  | 94 => ⟨S4096x64, .i1⟩
  | 95 => ⟨S4096x64, .i1⟩
  | 96 => ⟨S_, .i32⟩
  | 97 => ⟨S64, .i32⟩
  | 98 => ⟨S64, .i32⟩
  | 99 => ⟨S1x64, .i32⟩
  | 100 => ⟨S4096x1, .i32⟩
  | 101 => ⟨S4096x64, .i32⟩
  | 102 => ⟨S4096x64, .i32⟩
  | 103 => ⟨S4096x64, .i1⟩
  | 104 => ⟨S_, .f32⟩
  | 105 => ⟨S_, .f32⟩
  | 106 => ⟨S2x2x4096x64, .i1⟩
  | 107 => ⟨S2x2x4096x64, .f32⟩
  | 108 => ⟨S2x2x4096x64, .f32⟩
  | 109 => ⟨S_, .f32⟩
  | 110 => ⟨S_, .f32⟩
  | 111 => ⟨S2x2x4096x64, .i1⟩
  | 112 => ⟨S2x2x4096x64, .f32⟩
  | 113 => ⟨S2x2x4096x64, .f32⟩
  | 114 => ⟨S2x2x4096x16, .f32⟩
  | 115 => ⟨S2x2x4096x16, .i32⟩
  | 116 => ⟨S2x2x4096x16x1, .i32⟩
  | 117 => ⟨S1x1x1x1x64, .i32⟩
  | 118 => ⟨S2x2x4096x16x64, .i32⟩
  | 119 => ⟨S2x2x4096x16x64, .i32⟩
  | 120 => ⟨S2x2x4096x16x64, .i1⟩
  | 121 => ⟨S_, .i1⟩
  | 122 => ⟨S2x2x4096x64, .i1⟩
  | 123 => ⟨S_, .f32⟩
  | 124 => ⟨S_, .f32⟩
  | 125 => ⟨S2x2x4096x64, .f32⟩
  | 126 => ⟨S2x2x4096x64, .f32⟩
  | 127 => ⟨S2x2x4096x64, .f32⟩
  | _ => ⟨S2x4096x4096, .f32⟩

abbrev hbmTy0_1 (i : Nat) : BufTy := match i % 128 with
  | 0 => ⟨S2x2x1x4096x64, .f32⟩
  | 1 => ⟨S2x2x4x4096x64, .f32⟩
  | 2 => ⟨S2x2x4x4096x64, .f32⟩
  | 3 => ⟨S_, .f32⟩
  | 4 => ⟨S2x2x4x4096x64, .f32⟩
  | 5 => ⟨S2x2x4x4096x64, .f32⟩
  | 6 => ⟨S2x1x4x4096x64, .f32⟩
  | 7 => ⟨S2x4x4096x64, .f32⟩
  | 8 => ⟨S2x1x4x4096x64, .f32⟩
  | 9 => ⟨S2x4x4096x64, .f32⟩
  | 10 => ⟨S2x4x4096x64, .f32⟩
  | 11 => ⟨S2x4x4096x128, .f32⟩
  | 12 => ⟨S2x1x4x4096x64, .f32⟩
  | 13 => ⟨S2x4x4096x64, .f32⟩
  | 14 => ⟨S2x1x4x4096x64, .f32⟩
  | 15 => ⟨S2x4x4096x64, .f32⟩
  | 16 => ⟨S2x4x4096x64, .f32⟩
  | 17 => ⟨S2x4x4096x128, .f32⟩
  | 18 => ⟨S2x1x4x4096x128, .f32⟩
  | 19 => ⟨S2x1x4x4096x128, .f32⟩
  | 20 => ⟨S2x2x4x4096x128, .f32⟩
  | 21 => ⟨S2x2x4x16x256x128, .f32⟩
  | 22 => ⟨S2x2x16x4x256x128, .f32⟩
  | 23 => ⟨S2x2x16x1024x128, .f32⟩
  | 24 => ⟨S2x2x16x1024x128, .bf16⟩
  | _ => ⟨S2x4096x4096, .f32⟩

abbrev hbmTy (i : Nat) : BufTy := match i / 128 with
  | 0 => hbmTy0_0 i
  | 1 => hbmTy0_1 i
  | _ => ⟨S2x4096x4096, .f32⟩

abbrev bufTy : (tb : Table) → Fin (tcTables nBuf tb) → BufTy
  | .hbm, ⟨i, _⟩ => hbmTy i
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_v12 : Ref sig .tc := ⟨.hbm, 16, rfl⟩
abbrev main_v13 : Ref sig .tc := ⟨.hbm, 17, rfl⟩
abbrev main_c_0 : Ref sig .tc := ⟨.hbm, 18, rfl⟩
abbrev main_v14 : Ref sig .tc := ⟨.hbm, 19, rfl⟩
abbrev main_v15 : Ref sig .tc := ⟨.hbm, 20, rfl⟩
abbrev main_c_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_c_8 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_v5 : Ref sig .tc := ⟨.hbm, 64, rfl⟩
abbrev main_call2_v6 : Ref sig .tc := ⟨.hbm, 65, rfl⟩
abbrev main_call2_v7 : Ref sig .tc := ⟨.hbm, 66, rfl⟩
abbrev main_call2_v8 : Ref sig .tc := ⟨.hbm, 67, rfl⟩
abbrev main_call2_c : Ref sig .tc := ⟨.hbm, 68, rfl⟩
abbrev main_call2_v9 : Ref sig .tc := ⟨.hbm, 69, rfl⟩
abbrev main_call2_v10 : Ref sig .tc := ⟨.hbm, 70, rfl⟩
abbrev main_call2_v11 : Ref sig .tc := ⟨.hbm, 71, rfl⟩
abbrev main_call2_c_0 : Ref sig .tc := ⟨.hbm, 72, rfl⟩
abbrev main_call2_v12 : Ref sig .tc := ⟨.hbm, 73, rfl⟩
abbrev main_call2_v13 : Ref sig .tc := ⟨.hbm, 74, rfl⟩
abbrev main_v40 : Ref sig .tc := ⟨.hbm, 75, rfl⟩
abbrev main_v41 : Ref sig .tc := ⟨.hbm, 76, rfl⟩
abbrev main_c_9 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_c_10 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_c_11 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_cst_12 : Ref sig .tc := ⟨.hbm, 104, rfl⟩
abbrev main_call3_v0 : Ref sig .tc := ⟨.hbm, 105, rfl⟩
abbrev main_call3_v1 : Ref sig .tc := ⟨.hbm, 106, rfl⟩
abbrev main_call3_v2 : Ref sig .tc := ⟨.hbm, 107, rfl⟩
abbrev main_v66 : Ref sig .tc := ⟨.hbm, 108, rfl⟩
abbrev main_cst_13 : Ref sig .tc := ⟨.hbm, 109, rfl⟩
abbrev main_call4_v0 : Ref sig .tc := ⟨.hbm, 110, rfl⟩
abbrev main_call4_v1 : Ref sig .tc := ⟨.hbm, 111, rfl⟩
abbrev main_call4_v2 : Ref sig .tc := ⟨.hbm, 112, rfl⟩
abbrev main_v67 : Ref sig .tc := ⟨.hbm, 113, rfl⟩
abbrev main_values : Ref sig .tc := ⟨.hbm, 114, rfl⟩
abbrev main_indices : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_c_14 : Ref sig .tc := ⟨.hbm, 121, rfl⟩
abbrev main_v73 : Ref sig .tc := ⟨.hbm, 122, rfl⟩
abbrev main_cst_15 : Ref sig .tc := ⟨.hbm, 123, rfl⟩
abbrev main_cst_16 : Ref sig .tc := ⟨.hbm, 124, rfl⟩
abbrev main_call5_v0 : Ref sig .tc := ⟨.hbm, 125, rfl⟩
abbrev main_call5_v1 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_cst_17 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩

abbrev nD : Nat := 1
abbrev τ : Topo := Topo.v7x

variable {F : FTy → Type} [FloatOps F]

def κ : String → Option EReal := fun
  | "mask" => some ⊥
  | _ => none
-- ==== Kernel2.lean ====
abbrev S8192x2048 : Shape := ⟨2, ![8192, 2048]⟩
abbrev S2x2048x8192 : Shape := ⟨3, ![2, 2048, 8192]⟩
abbrev S2x8192x2048 : Shape := ⟨3, ![2, 8192, 2048]⟩
abbrev S2048 : Shape := ⟨1, ![2048]⟩
abbrev S1x2048 : Shape := ⟨2, ![1, 2048]⟩
abbrev S512x2048 : Shape := ⟨2, ![512, 2048]⟩
abbrev S1x2048x1024 : Shape := ⟨3, ![1, 2048, 1024]⟩
abbrev S1x1024x2048 : Shape := ⟨3, ![1, 1024, 2048]⟩
abbrev S2048x1024 : Shape := ⟨2, ![2048, 1024]⟩
abbrev S512x1024 : Shape := ⟨2, ![512, 1024]⟩
abbrev S1024x2048 : Shape := ⟨2, ![1024, 2048]⟩
abbrev S512 : Shape := ⟨1, ![512]⟩
abbrev S512x1 : Shape := ⟨2, ![512, 1]⟩

abbrev nBuf : Space → Nat
  | .hbm => 10
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2x2048x8192, .f32⟩
  | .hbm, ⟨2, _⟩ => ⟨S2x8192x2048, .f32⟩
  | .hbm, ⟨3, _⟩ => ⟨S2048, .f32⟩
  | .hbm, ⟨4, _⟩ => ⟨S2048, .f32⟩
  | .hbm, ⟨5, _⟩ => ⟨S2x2048x8192, .bf16⟩
  | .hbm, ⟨6, _⟩ => ⟨S2x8192x2048, .bf16⟩
  | .hbm, ⟨7, _⟩ => ⟨S1x2048, .f32⟩
  | .hbm, ⟨8, _⟩ => ⟨S1x2048, .f32⟩
  | .hbm, ⟨9, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_14 : BitVec 32 := 0#32
  let v21 : BitVec 1 := Scalar.cmpi .ne v20 c0_i32_14
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S8192x2048 : Shape := ⟨2, ![8192, 2048]⟩
abbrev S2x2048x8192 : Shape := ⟨3, ![2, 2048, 8192]⟩
abbrev S2x8192x2048 : Shape := ⟨3, ![2, 8192, 2048]⟩
abbrev S2048 : Shape := ⟨1, ![2048]⟩
abbrev S1x2048x8192 : Shape := ⟨3, ![1, 2048, 8192]⟩
abbrev S2048x8192 : Shape := ⟨2, ![2048, 8192]⟩
abbrev S8192x8192 : Shape := ⟨2, ![8192, 8192]⟩
abbrev S_ : Shape := ⟨0, ![]⟩
abbrev S1x8192x2048 : Shape := ⟨3, ![1, 8192, 2048]⟩
abbrev S8192 : Shape := ⟨1, ![8192]⟩
abbrev S8192x1 : Shape := ⟨2, ![8192, 1]⟩
abbrev S1x2048 : Shape := ⟨2, ![1, 2048]⟩

abbrev nBuf : Space → Nat
  | .hbm => 48
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x2048x8192, .f32⟩
  | .hbm, ⟨2, _⟩ => ⟨S2x8192x2048, .f32⟩
  | .hbm, ⟨3, _⟩ => ⟨S2048, .f32⟩
  | .hbm, ⟨4, _⟩ => ⟨S2048, .f32⟩
  | .hbm, ⟨5, _⟩ => ⟨S1x2048x8192, .f32⟩
  | .hbm, ⟨6, _⟩ => ⟨S2048x8192, .f32⟩
  | .hbm, ⟨7, _⟩ => ⟨S8192x8192, .f32⟩
  | .hbm, ⟨8, _⟩ => ⟨S_, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S1x8192x2048, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x2048, .f32⟩
  | .hbm, ⟨35, _⟩ => ⟨S8192x2048, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x1, .f32⟩
  | .hbm, ⟨40, _⟩ => ⟨S8192x2048, .f32⟩
  | .hbm, ⟨41, _⟩ => ⟨S8192x2048, .f32⟩
  | .hbm, ⟨42, _⟩ => ⟨S1x2048, .f32⟩
  | .hbm, ⟨43, _⟩ => ⟨S8192x2048, .f32⟩
  | .hbm, ⟨44, _⟩ => ⟨S8192x2048, .f32⟩
  | .hbm, ⟨45, _⟩ => ⟨S1x2048, .f32⟩
  | .hbm, ⟨46, _⟩ => ⟨S8192x2048, .f32⟩
  | .hbm, ⟨47, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_cst : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== Kernel3.lean ====
abbrev S8192x512 : Shape := ⟨2, ![8192, 512]⟩
abbrev S2x2048x2048 : Shape := ⟨3, ![2, 2048, 2048]⟩
abbrev S8192x2048 : Shape := ⟨2, ![8192, 2048]⟩
abbrev S2048 : Shape := ⟨1, ![2048]⟩
abbrev S1x2048 : Shape := ⟨2, ![1, 2048]⟩
abbrev S512x512 : Shape := ⟨2, ![512, 512]⟩
abbrev S1x2048x2048 : Shape := ⟨3, ![1, 2048, 2048]⟩
abbrev S512x2048 : Shape := ⟨2, ![512, 2048]⟩
abbrev S128x512 : Shape := ⟨2, ![128, 512]⟩
abbrev S128x2048 : Shape := ⟨2, ![128, 2048]⟩
abbrev S2048x2048 : Shape := ⟨2, ![2048, 2048]⟩
abbrev S128 : Shape := ⟨1, ![128]⟩
abbrev S128x1 : Shape := ⟨2, ![128, 1]⟩

abbrev nBuf : Space → Nat
  | .hbm => 12
  | .vmem => 15
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S2x2048x2048, .f32⟩
  | .hbm, ⟨5, _⟩ => ⟨S8192x2048, .f32⟩
  | .hbm, ⟨6, _⟩ => ⟨S2048, .f32⟩
  | .hbm, ⟨7, _⟩ => ⟨S2048, .f32⟩
  | .hbm, ⟨8, _⟩ => ⟨S2x2048x2048, .bf16⟩
  | .hbm, ⟨9, _⟩ => ⟨S1x2048, .f32⟩
  | .hbm, ⟨10, _⟩ => ⟨S1x2048, .f32⟩
  | .hbm, ⟨11, _⟩ => ⟨S8192x2048, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1x2048x2048, .bf16⟩
  | .local _ .vmem, ⟨9, _⟩ => ⟨S512x2048, .f32⟩
  | .local _ .vmem, ⟨10, _⟩ => ⟨S512x2048, .f32⟩
  | .local _ .vmem, ⟨11, _⟩ => ⟨S1x2048, .f32⟩
  | .local _ .vmem, ⟨12, _⟩ => ⟨S1x2048, .f32⟩
  | .local _ .vmem, ⟨13, _⟩ => ⟨S512x2048, .f32⟩
  | .local _ .vmem, ⟨14, _⟩ => ⟨S512x2048, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S8192x512 : Shape := ⟨2, ![8192, 512]⟩
abbrev S2x2048x2048 : Shape := ⟨3, ![2, 2048, 2048]⟩
abbrev S8192x2048 : Shape := ⟨2, ![8192, 2048]⟩
abbrev S2048 : Shape := ⟨1, ![2048]⟩
abbrev S1x2048x2048 : Shape := ⟨3, ![1, 2048, 2048]⟩
abbrev S2048x2048 : Shape := ⟨2, ![2048, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 46
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S2x2048x2048, .f32⟩
  | .hbm, ⟨5, _⟩ => ⟨S8192x2048, .f32⟩
  | .hbm, ⟨6, _⟩ => ⟨S2048, .f32⟩
  | .hbm, ⟨7, _⟩ => ⟨S2048, .f32⟩
  | .hbm, ⟨8, _⟩ => ⟨S8192x2048, .bf16⟩
  | .hbm, ⟨9, _⟩ => ⟨S8192x2048, .f32⟩
  | .hbm, ⟨10, _⟩ => ⟨S1x2048x2048, .f32⟩
  | .hbm, ⟨11, _⟩ => ⟨S2048x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x2048, .f32⟩
  | .hbm, ⟨33, _⟩ => ⟨S8192x2048, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x2048, .f32⟩
  | .hbm, ⟨39, _⟩ => ⟨S8192x2048, .f32⟩
  | .hbm, ⟨40, _⟩ => ⟨S1x2048, .f32⟩
  | .hbm, ⟨41, _⟩ => ⟨S8192x2048, .f32⟩
  | .hbm, ⟨42, _⟩ => ⟨S8192x2048, .f32⟩
  | .hbm, ⟨43, _⟩ => ⟨S1x2048, .f32⟩
  | .hbm, ⟨44, _⟩ => ⟨S8192x2048, .f32⟩
  | .hbm, ⟨45, _⟩ => ⟨S8192x2048, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== Kernel4.lean ====
abbrev S8192x2048 : Shape := ⟨2, ![8192, 2048]⟩
abbrev S2x2048x8192 : Shape := ⟨3, ![2, 2048, 8192]⟩
abbrev S2x8192x2048 : Shape := ⟨3, ![2, 8192, 2048]⟩
abbrev S2048 : Shape := ⟨1, ![2048]⟩
abbrev S1x2048 : Shape := ⟨2, ![1, 2048]⟩
abbrev S512x2048 : Shape := ⟨2, ![512, 2048]⟩
abbrev S1x2048x1024 : Shape := ⟨3, ![1, 2048, 1024]⟩
abbrev S1x1024x2048 : Shape := ⟨3, ![1, 1024, 2048]⟩
abbrev S2048x1024 : Shape := ⟨2, ![2048, 1024]⟩
abbrev S512x1024 : Shape := ⟨2, ![512, 1024]⟩
abbrev S1024x2048 : Shape := ⟨2, ![1024, 2048]⟩
abbrev S512 : Shape := ⟨1, ![512]⟩
abbrev S512x1 : Shape := ⟨2, ![512, 1]⟩

abbrev nBuf : Space → Nat
  | .hbm => 10
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2x2048x8192, .f32⟩
  | .hbm, ⟨2, _⟩ => ⟨S2x8192x2048, .f32⟩
  | .hbm, ⟨3, _⟩ => ⟨S2048, .f32⟩
  | .hbm, ⟨4, _⟩ => ⟨S2048, .f32⟩
  | .hbm, ⟨5, _⟩ => ⟨S2x2048x8192, .bf16⟩
  | .hbm, ⟨6, _⟩ => ⟨S2x8192x2048, .bf16⟩
  | .hbm, ⟨7, _⟩ => ⟨S1x2048, .f32⟩
  | .hbm, ⟨8, _⟩ => ⟨S1x2048, .f32⟩
  | .hbm, ⟨9, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_14 : BitVec 32 := 0#32
  let v21 : BitVec 1 := Scalar.cmpi .ne v20 c0_i32_14
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference4Ideal.lean ====
abbrev S8192x2048 : Shape := ⟨2, ![8192, 2048]⟩
abbrev S2x2048x8192 : Shape := ⟨3, ![2, 2048, 8192]⟩
abbrev S2x8192x2048 : Shape := ⟨3, ![2, 8192, 2048]⟩
abbrev S2048 : Shape := ⟨1, ![2048]⟩
abbrev S1x2048x8192 : Shape := ⟨3, ![1, 2048, 8192]⟩
abbrev S2048x8192 : Shape := ⟨2, ![2048, 8192]⟩
abbrev S8192x8192 : Shape := ⟨2, ![8192, 8192]⟩
abbrev S_ : Shape := ⟨0, ![]⟩
abbrev S1x8192x2048 : Shape := ⟨3, ![1, 8192, 2048]⟩
abbrev S8192 : Shape := ⟨1, ![8192]⟩
abbrev S8192x1 : Shape := ⟨2, ![8192, 1]⟩
abbrev S1x2048 : Shape := ⟨2, ![1, 2048]⟩

abbrev nBuf : Space → Nat
  | .hbm => 48
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x2048x8192, .f32⟩
  | .hbm, ⟨2, _⟩ => ⟨S2x8192x2048, .f32⟩
  | .hbm, ⟨3, _⟩ => ⟨S2048, .f32⟩
  | .hbm, ⟨4, _⟩ => ⟨S2048, .f32⟩
  | .hbm, ⟨5, _⟩ => ⟨S1x2048x8192, .f32⟩
  | .hbm, ⟨6, _⟩ => ⟨S2048x8192, .f32⟩
  | .hbm, ⟨7, _⟩ => ⟨S8192x8192, .f32⟩
  | .hbm, ⟨8, _⟩ => ⟨S_, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S1x8192x2048, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x2048, .f32⟩
  | .hbm, ⟨35, _⟩ => ⟨S8192x2048, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x1, .f32⟩
  | .hbm, ⟨40, _⟩ => ⟨S8192x2048, .f32⟩
  | .hbm, ⟨41, _⟩ => ⟨S8192x2048, .f32⟩
  | .hbm, ⟨42, _⟩ => ⟨S1x2048, .f32⟩
  | .hbm, ⟨43, _⟩ => ⟨S8192x2048, .f32⟩
  | .hbm, ⟨44, _⟩ => ⟨S8192x2048, .f32⟩
  | .hbm, ⟨45, _⟩ => ⟨S1x2048, .f32⟩
  | .hbm, ⟨46, _⟩ => ⟨S8192x2048, .f32⟩
  | .hbm, ⟨47, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_cst : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== Kernel5.lean ====
abbrev S8192x512 : Shape := ⟨2, ![8192, 512]⟩
abbrev S2x2048x2048 : Shape := ⟨3, ![2, 2048, 2048]⟩
abbrev S8192x2048 : Shape := ⟨2, ![8192, 2048]⟩
abbrev S2048 : Shape := ⟨1, ![2048]⟩
abbrev S1x2048 : Shape := ⟨2, ![1, 2048]⟩
abbrev S512x512 : Shape := ⟨2, ![512, 512]⟩
abbrev S1x2048x2048 : Shape := ⟨3, ![1, 2048, 2048]⟩
abbrev S512x2048 : Shape := ⟨2, ![512, 2048]⟩
abbrev S128x512 : Shape := ⟨2, ![128, 512]⟩
abbrev S128x2048 : Shape := ⟨2, ![128, 2048]⟩
abbrev S2048x2048 : Shape := ⟨2, ![2048, 2048]⟩
abbrev S128 : Shape := ⟨1, ![128]⟩
abbrev S128x1 : Shape := ⟨2, ![128, 1]⟩

abbrev nBuf : Space → Nat
  | .hbm => 12
  | .vmem => 15
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S2x2048x2048, .f32⟩
  | .hbm, ⟨5, _⟩ => ⟨S8192x2048, .f32⟩
  | .hbm, ⟨6, _⟩ => ⟨S2048, .f32⟩
  | .hbm, ⟨7, _⟩ => ⟨S2048, .f32⟩
  | .hbm, ⟨8, _⟩ => ⟨S2x2048x2048, .bf16⟩
  | .hbm, ⟨9, _⟩ => ⟨S1x2048, .f32⟩
  | .hbm, ⟨10, _⟩ => ⟨S1x2048, .f32⟩
  | .hbm, ⟨11, _⟩ => ⟨S8192x2048, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1x2048x2048, .bf16⟩
  | .local _ .vmem, ⟨9, _⟩ => ⟨S512x2048, .f32⟩
  | .local _ .vmem, ⟨10, _⟩ => ⟨S512x2048, .f32⟩
  | .local _ .vmem, ⟨11, _⟩ => ⟨S1x2048, .f32⟩
  | .local _ .vmem, ⟨12, _⟩ => ⟨S1x2048, .f32⟩
  | .local _ .vmem, ⟨13, _⟩ => ⟨S512x2048, .f32⟩
  | .local _ .vmem, ⟨14, _⟩ => ⟨S512x2048, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference5Ideal.lean ====
abbrev S8192x512 : Shape := ⟨2, ![8192, 512]⟩
abbrev S2x2048x2048 : Shape := ⟨3, ![2, 2048, 2048]⟩
abbrev S8192x2048 : Shape := ⟨2, ![8192, 2048]⟩
abbrev S2048 : Shape := ⟨1, ![2048]⟩
abbrev S1x2048x2048 : Shape := ⟨3, ![1, 2048, 2048]⟩
abbrev S2048x2048 : Shape := ⟨2, ![2048, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 46
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S2x2048x2048, .f32⟩
  | .hbm, ⟨5, _⟩ => ⟨S8192x2048, .f32⟩
  | .hbm, ⟨6, _⟩ => ⟨S2048, .f32⟩
  | .hbm, ⟨7, _⟩ => ⟨S2048, .f32⟩
  | .hbm, ⟨8, _⟩ => ⟨S8192x2048, .bf16⟩
  | .hbm, ⟨9, _⟩ => ⟨S8192x2048, .f32⟩
  | .hbm, ⟨10, _⟩ => ⟨S1x2048x2048, .f32⟩
  | .hbm, ⟨11, _⟩ => ⟨S2048x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x2048, .f32⟩
  | .hbm, ⟨33, _⟩ => ⟨S8192x2048, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x2048, .f32⟩
  | .hbm, ⟨39, _⟩ => ⟨S8192x2048, .f32⟩
  | .hbm, ⟨40, _⟩ => ⟨S1x2048, .f32⟩
  | .hbm, ⟨41, _⟩ => ⟨S8192x2048, .f32⟩
  | .hbm, ⟨42, _⟩ => ⟨S8192x2048, .f32⟩
  | .hbm, ⟨43, _⟩ => ⟨S1x2048, .f32⟩
  | .hbm, ⟨44, _⟩ => ⟨S8192x2048, .f32⟩
  | .hbm, ⟨45, _⟩ => ⟨S8192x2048, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== Kernel6.lean ====
abbrev S128x2048 : Shape := ⟨2, ![128, 2048]⟩
abbrev S2x2048x8192 : Shape := ⟨3, ![2, 2048, 8192]⟩
abbrev S2x8192x2048 : Shape := ⟨3, ![2, 8192, 2048]⟩
abbrev S2048 : Shape := ⟨1, ![2048]⟩
abbrev S1x2048 : Shape := ⟨2, ![1, 2048]⟩
abbrev S1x2048x1024 : Shape := ⟨3, ![1, 2048, 1024]⟩
abbrev S1x1024x2048 : Shape := ⟨3, ![1, 1024, 2048]⟩
abbrev S2048x1024 : Shape := ⟨2, ![2048, 1024]⟩
abbrev S128x1024 : Shape := ⟨2, ![128, 1024]⟩
abbrev S1024x2048 : Shape := ⟨2, ![1024, 2048]⟩
abbrev S128 : Shape := ⟨1, ![128]⟩
abbrev S128x1 : Shape := ⟨2, ![128, 1]⟩

abbrev nBuf : Space → Nat
  | .hbm => 10
  | .vmem => 10
  | .smem => 0
  | _ => 0

abbrev bufTy : (tb : Table) → Fin (tcTables nBuf tb) → BufTy
  | .hbm, ⟨0, _⟩ => ⟨S128x2048, .f32⟩
  | .hbm, ⟨1, _⟩ => ⟨S2x2048x8192, .f32⟩
  | .hbm, ⟨2, _⟩ => ⟨S2x8192x2048, .f32⟩
  | .hbm, ⟨3, _⟩ => ⟨S2048, .f32⟩
  | .hbm, ⟨4, _⟩ => ⟨S2048, .f32⟩
  | .hbm, ⟨5, _⟩ => ⟨S2x2048x8192, .bf16⟩
  | .hbm, ⟨6, _⟩ => ⟨S2x8192x2048, .bf16⟩
  | .hbm, ⟨7, _⟩ => ⟨S1x2048, .f32⟩
  | .hbm, ⟨8, _⟩ => ⟨S1x2048, .f32⟩
  | .hbm, ⟨9, _⟩ => ⟨S128x2048, .f32⟩
  | .local _ .vmem, ⟨0, _⟩ => ⟨S128x2048, .f32⟩
  | .local _ .vmem, ⟨1, _⟩ => ⟨S1x2048x1024, .bf16⟩
  | .local _ .vmem, ⟨2, _⟩ => ⟨S1x2048x1024, .bf16⟩
  | .local _ .vmem, ⟨3, _⟩ => ⟨S1x1024x2048, .bf16⟩
  | .local _ .vmem, ⟨4, _⟩ => ⟨S1x1024x2048, .bf16⟩
  | .local _ .vmem, ⟨5, _⟩ => ⟨S1x2048, .f32⟩
  | .local _ .vmem, ⟨6, _⟩ => ⟨S1x2048, .f32⟩
  | .local _ .vmem, ⟨7, _⟩ => ⟨S128x2048, .f32⟩
  | .local _ .vmem, ⟨8, _⟩ => ⟨S128x2048, .bf16⟩
  | .local _ .vmem, ⟨9, _⟩ => ⟨S128x2048, .f32⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_14 : BitVec 32 := 0#32
  let v21 : BitVec 1 := Scalar.cmpi .ne v20 c0_i32_14
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== Reference6Ideal.lean ====
abbrev S128x2048 : Shape := ⟨2, ![128, 2048]⟩
abbrev S2x2048x8192 : Shape := ⟨3, ![2, 2048, 8192]⟩
abbrev S2x8192x2048 : Shape := ⟨3, ![2, 8192, 2048]⟩
abbrev S2048 : Shape := ⟨1, ![2048]⟩
abbrev S1x2048x8192 : Shape := ⟨3, ![1, 2048, 8192]⟩
abbrev S2048x8192 : Shape := ⟨2, ![2048, 8192]⟩
abbrev S128x8192 : Shape := ⟨2, ![128, 8192]⟩
abbrev S_ : Shape := ⟨0, ![]⟩
abbrev S1x8192x2048 : Shape := ⟨3, ![1, 8192, 2048]⟩
abbrev S8192x2048 : Shape := ⟨2, ![8192, 2048]⟩
abbrev S128 : Shape := ⟨1, ![128]⟩
abbrev S128x1 : Shape := ⟨2, ![128, 1]⟩
abbrev S1x2048 : Shape := ⟨2, ![1, 2048]⟩

abbrev nBuf : Space → Nat
  | .hbm => 48
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S2x2048x8192, .f32⟩
  | .hbm, ⟨2, _⟩ => ⟨S2x8192x2048, .f32⟩
  | .hbm, ⟨3, _⟩ => ⟨S2048, .f32⟩
  | .hbm, ⟨4, _⟩ => ⟨S2048, .f32⟩
  | .hbm, ⟨5, _⟩ => ⟨S1x2048x8192, .f32⟩
  | .hbm, ⟨6, _⟩ => ⟨S2048x8192, .f32⟩
  | .hbm, ⟨7, _⟩ => ⟨S128x8192, .f32⟩
  | .hbm, ⟨8, _⟩ => ⟨S_, .f32⟩
  | .hbm, ⟨9, _⟩ => ⟨S128x8192, .f32⟩
  | .hbm, ⟨10, _⟩ => ⟨S128x8192, .f32⟩
  | .hbm, ⟨11, _⟩ => ⟨S128x8192, .f32⟩
  | .hbm, ⟨12, _⟩ => ⟨S1x8192x2048, .f32⟩
  | .hbm, ⟨13, _⟩ => ⟨S8192x2048, .f32⟩
  | .hbm, ⟨14, _⟩ => ⟨S128x2048, .f32⟩
  | .hbm, ⟨15, _⟩ => ⟨S_, .f32⟩
  | .hbm, ⟨16, _⟩ => ⟨S128x2048, .f32⟩
  | .hbm, ⟨17, _⟩ => ⟨S128x2048, .f32⟩
  | .hbm, ⟨18, _⟩ => ⟨S128x2048, .f32⟩
  | .hbm, ⟨19, _⟩ => ⟨S_, .f32⟩
  | .hbm, ⟨20, _⟩ => ⟨S128, .f32⟩
  | .hbm, ⟨21, _⟩ => ⟨S128x1, .f32⟩
  | .hbm, ⟨22, _⟩ => ⟨S_, .f32⟩
  | .hbm, ⟨23, _⟩ => ⟨S128x1, .f32⟩
  | .hbm, ⟨24, _⟩ => ⟨S128x1, .f32⟩
  | .hbm, ⟨25, _⟩ => ⟨S128x2048, .f32⟩
  | .hbm, ⟨26, _⟩ => ⟨S128x2048, .f32⟩
  | .hbm, ⟨27, _⟩ => ⟨S128x2048, .f32⟩
  | .hbm, ⟨28, _⟩ => ⟨S_, .f32⟩
  | .hbm, ⟨29, _⟩ => ⟨S128, .f32⟩
  | .hbm, ⟨30, _⟩ => ⟨S128x1, .f32⟩
  | .hbm, ⟨31, _⟩ => ⟨S_, .f32⟩
  | .hbm, ⟨32, _⟩ => ⟨S128x1, .f32⟩
  | .hbm, ⟨33, _⟩ => ⟨S128x1, .f32⟩
  | .hbm, ⟨34, _⟩ => ⟨S128x2048, .f32⟩
  | .hbm, ⟨35, _⟩ => ⟨S128x2048, .f32⟩
  | .hbm, ⟨36, _⟩ => ⟨S_, .f32⟩
  | .hbm, ⟨37, _⟩ => ⟨S128x1, .f32⟩
  | .hbm, ⟨38, _⟩ => ⟨S128x1, .f32⟩
  | .hbm, ⟨39, _⟩ => ⟨S128x1, .f32⟩
  | .hbm, ⟨40, _⟩ => ⟨S128x2048, .f32⟩
  | .hbm, ⟨41, _⟩ => ⟨S128x2048, .f32⟩
  | .hbm, ⟨42, _⟩ => ⟨S1x2048, .f32⟩
  | .hbm, ⟨43, _⟩ => ⟨S128x2048, .f32⟩
  | .hbm, ⟨44, _⟩ => ⟨S128x2048, .f32⟩
  | .hbm, ⟨45, _⟩ => ⟨S1x2048, .f32⟩
  | .hbm, ⟨46, _⟩ => ⟨S128x2048, .f32⟩
  | .hbm, ⟨47, _⟩ => ⟨S128x2048, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_cst : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== Kernel7.lean ====
abbrev S32x4x2048 : Shape := ⟨3, ![32, 4, 2048]⟩
abbrev S2x2048x3864 : Shape := ⟨3, ![2, 2048, 3864]⟩
abbrev S_ : Shape := ⟨0, ![]⟩
abbrev S2x2048x232 : Shape := ⟨3, ![2, 2048, 232]⟩
abbrev S2x2048x4096 : Shape := ⟨3, ![2, 2048, 4096]⟩
abbrev S4x32x2048 : Shape := ⟨3, ![4, 32, 2048]⟩
abbrev S128x2048 : Shape := ⟨2, ![128, 2048]⟩
abbrev S128x4096 : Shape := ⟨2, ![128, 4096]⟩
abbrev S1x2048x512 : Shape := ⟨3, ![1, 2048, 512]⟩
abbrev S128x512 : Shape := ⟨2, ![128, 512]⟩
abbrev S2048x512 : Shape := ⟨2, ![2048, 512]⟩

abbrev nBuf : Space → Nat
  | .hbm => 9
  | .vmem => 6
  | .smem => 0
  | _ => 0

abbrev bufTy : (tb : Table) → Fin (tcTables nBuf tb) → BufTy
  | .hbm, ⟨0, _⟩ => ⟨S32x4x2048, .f32⟩
  | .hbm, ⟨1, _⟩ => ⟨S2x2048x3864, .f32⟩
  | .hbm, ⟨2, _⟩ => ⟨S2x2048x3864, .bf16⟩
  | .hbm, ⟨3, _⟩ => ⟨S_, .bf16⟩
  | .hbm, ⟨4, _⟩ => ⟨S2x2048x232, .bf16⟩
  | .hbm, ⟨5, _⟩ => ⟨S2x2048x4096, .bf16⟩
  | .hbm, ⟨6, _⟩ => ⟨S4x32x2048, .f32⟩
  | .hbm, ⟨7, _⟩ => ⟨S128x2048, .f32⟩
  | .hbm, ⟨8, _⟩ => ⟨S128x4096, .f32⟩
  | .local _ .vmem, ⟨0, _⟩ => ⟨S128x2048, .f32⟩
  | .local _ .vmem, ⟨1, _⟩ => ⟨S1x2048x512, .bf16⟩
  | .local _ .vmem, ⟨2, _⟩ => ⟨S1x2048x512, .bf16⟩
  | .local _ .vmem, ⟨3, _⟩ => ⟨S128x512, .f32⟩
  | .local _ .vmem, ⟨4, _⟩ => ⟨S128x512, .f32⟩
  | .local _ .vmem, ⟨5, _⟩ => ⟨S128x2048, .bf16⟩
  | _, _ => ⟨S32x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S32x4x2048 : Shape := ⟨3, ![32, 4, 2048]⟩
abbrev S2x2048x3864 : Shape := ⟨3, ![2, 2048, 3864]⟩
abbrev S1x2048x3864 : Shape := ⟨3, ![1, 2048, 3864]⟩
abbrev S2048x3864 : Shape := ⟨2, ![2048, 3864]⟩
abbrev S32x4x3864 : Shape := ⟨3, ![32, 4, 3864]⟩
abbrev S4x32x3864 : Shape := ⟨3, ![4, 32, 3864]⟩
abbrev S128x3864 : Shape := ⟨2, ![128, 3864]⟩
abbrev S_ : Shape := ⟨0, ![]⟩
abbrev S128x232 : Shape := ⟨2, ![128, 232]⟩
abbrev S128x4096 : Shape := ⟨2, ![128, 4096]⟩

abbrev nBuf : Space → Nat
  | .hbm => 10
  | .vmem => 0
  | .smem => 0
  | _ => 0

abbrev bufTy : (tb : Table) → Fin (tcTables nBuf tb) → BufTy
  | .hbm, ⟨0, _⟩ => ⟨S32x4x2048, .f32⟩
  | .hbm, ⟨1, _⟩ => ⟨S2x2048x3864, .f32⟩
  | .hbm, ⟨2, _⟩ => ⟨S1x2048x3864, .f32⟩
  | .hbm, ⟨3, _⟩ => ⟨S2048x3864, .f32⟩
  | .hbm, ⟨4, _⟩ => ⟨S32x4x3864, .f32⟩
  | .hbm, ⟨5, _⟩ => ⟨S4x32x3864, .f32⟩
  | .hbm, ⟨6, _⟩ => ⟨S128x3864, .f32⟩
  | .hbm, ⟨7, _⟩ => ⟨S_, .f32⟩
  | .hbm, ⟨8, _⟩ => ⟨S128x232, .f32⟩
  | .hbm, ⟨9, _⟩ => ⟨S128x4096, .f32⟩
  | _, _ => ⟨S32x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.Rank.lean ====
module
public import Idealize.ShloMosaic.Lib.Pointwise
public import Idealize.ShloMosaic.Lib.SortPrefix
public import Idealize.ShloMosaic.Lib.SortFacts
@[expose] public section

/-! Which positions a stable sort by decreasing key puts among its first `k`: those that fewer than `k` positions beat, where a position
beats another by a greater key, or by an equal key at a smaller index. -/

noncomputable section
open Idealize.ShloMosaic

namespace Cert.Layer.Rank

variable {n : Nat}

/-- Position `p` beats position `j`. -/
def Beats (S : Fin n → EReal) (p j : Fin n) : Prop := S j < S p ∨ (S p = S j ∧ p < j)

instance (S : Fin n → EReal) (p j : Fin n) : Decidable (Beats S p j) := Classical.dec _

/-- How many positions beat `j`. -/
def rank (S : Fin n → EReal) (j : Fin n) : Nat := (Finset.univ.filter fun p => Beats S p j).card

/-- The order the sort is given: the greater key first. -/
def greater (S : Fin n → EReal) (p j : Fin n) : Bool := decide (S j < S p)

theorem beats_total (S : Fin n → EReal) : StrictTotalBefore fun p j : Fin n => decide (Beats S p j) where
  irrefl a := decide_eq_false fun h => h.elim (lt_irrefl _) fun h => lt_irrefl _ h.2
  trans a b c hab hbc := by
    rw [decide_eq_true_eq] at hab hbc ⊢
    unfold Beats at hab hbc ⊢
    rcases hab with h | ⟨h, h'⟩ <;> rcases hbc with k | ⟨k, k'⟩
    · exact Or.inl (k.trans h)
    · exact Or.inl (k ▸ h)
    · exact Or.inl (h ▸ k)
    · exact Or.inr ⟨h.trans k, h'.trans k'⟩
  total a b hne := by
    rw [decide_eq_true_eq, decide_eq_true_eq]
    unfold Beats
    rcases lt_trichotomy (S a) (S b) with h | h | h
    · exact Or.inr (Or.inl h)
    · rcases lt_or_gt_of_ne hne with k | k
      · exact Or.inl (Or.inr ⟨h, k⟩)
      · exact Or.inr (Or.inr ⟨h.symm, k⟩)
    · exact Or.inl (Or.inl h)

/-- On positions listed in ascending order the stable sort by key alone is the sort that breaks ties by position. -/
theorem stableSort_greater (S : Fin n → EReal) (l : List (Fin n)) (hl : l.Pairwise (· < ·)) :
    stableSort (greater S) l = stableSort (fun p j => decide (Beats S p j)) l := by
  induction l with
  | nil => rfl
  | cons a l ih =>
    rw [List.pairwise_cons] at hl
    unfold stableSort
    rw [ih hl.2]
    refine insertBefore_congr _ _ _ _ fun b hb => ?_
    have hab : a < b := hl.1 b ((perm_stableSort _ l).mem_iff.mp hb)
    unfold greater
    rw [decide_eq_decide]
    exact ⟨Or.inl, fun h => h.elim id fun h => absurd h.2 (not_lt.mpr hab.le)⟩

theorem sortedFrom_greater (S : Fin n → EReal) :
    sortedFrom (greater S) = sortedFrom fun p j => decide (Beats S p j) := by
  funext k
  unfold sortedFrom
  exact List.get_of_eq (stableSort_greater S _ (List.pairwise_lt_finRange n)) _

/-- The position the sort puts at `k` is beaten by exactly `k` positions. -/
theorem rank_sortedFrom (S : Fin n → EReal) (k : Fin n) : rank S (sortedFrom (greater S) k) = k := by
  rw [sortedFrom_greater]
  have hB := beats_total S
  set σ := sortedFrom fun p j => decide (Beats S p j) with hσ
  have hlt : ∀ i j : Fin n, i < j → Beats S (σ i) (σ j) := fun i j hij => by
    have h : decide (Beats S (σ j) (σ i)) = false :=
      sortedFrom_noInversion _ _ (fun a b => hB.asymm a b) (fun _ _ h => h) hB.negTrans i j hij
    have hne : σ i ≠ σ j := fun e => absurd (sortedFrom_injective _ e) hij.ne
    rcases hB.total _ _ hne with h' | h'
    · exact of_decide_eq_true h'
    · rw [h'] at h; exact absurd h (by decide)
  have hset : (Finset.univ.filter fun p => Beats S p (σ k)) = (Finset.univ.filter fun i => i < k).map ⟨σ, sortedFrom_injective _⟩ := by
    ext p
    obtain ⟨i, rfl⟩ := sortedFrom_surjective (fun p j => decide (Beats S p j)) p
    simp only [Finset.mem_filter, Finset.mem_univ, true_and, Finset.mem_map, Function.Embedding.coeFn_mk]
    constructor
    · intro h
      refine ⟨i, ?_, rfl⟩
      by_contra hk
      rcases (not_lt.mp hk).eq_or_lt with e | e
      · subst e; have := hB.irrefl (σ k); exact absurd h (of_decide_eq_false this)
      · have := hB.asymm _ _ (decide_eq_true (hlt k i e)); exact absurd h (of_decide_eq_false this)
    · rintro ⟨i', hi', e⟩
      have : i' = i := sortedFrom_injective _ e
      subst this
      exact hlt _ _ hi'
  unfold rank
  rw [hset, Finset.card_map]
  have e : (Finset.univ.filter fun i => i < k) = Finset.Iio k := by ext; simp
  rw [e, Fin.card_Iio]

/-- A position is among the first `k` of the sort exactly if fewer than `k` positions beat it. -/
theorem mem_first (S : Fin n → EReal) (k : Nat) (hk : k ≤ n) (j : Fin n) :
    (∃ x : Fin k, sortedFrom (greater S) (x.castLE hk) = j) ↔ rank S j < k := by
  constructor
  · rintro ⟨x, rfl⟩
    rw [rank_sortedFrom]
    exact x.isLt
  · intro h
    obtain ⟨i, rfl⟩ := sortedFrom_surjective (greater S) j
    rw [rank_sortedFrom] at h
    exact ⟨⟨i, h⟩, rfl⟩

end Cert.Layer.Rank
end
-- ==== Proof.CmpSpec.lean ====
module
public import proofs.«01_k».proof.Proof.Rank
@[expose] public section

/-! The compressed attention of one query token over the extended reals: the softmax over the blocks that have ended, its output, the score
by which blocks are selected; and the two shortcuts that leave it unchanged, multiplying by one quotient in place of dividing, and counting
only the blocks up to the tile's last one. -/

noncomputable section
open Idealize.ShloMosaic
open scoped BigOperators

namespace Cert.Layer.Cmp

/-- The factor 1/8 on the products. -/
def eighth : EReal := Ideal.ofBits .f32 0x3E000000#32
/-- The score of a block that is always selected. -/
def five : EReal := Ideal.ofBits .f32 0x40A00000#32
/-- The score of a block that has not begun. -/
def minusOne : EReal := Ideal.ofBits .f32 0xBF800000#32

theorem eighth_eq : eighth = ((1 / 8 : ℝ) : EReal) := by
  unfold eighth; simp [Ideal.ofBits, Ideal.ieee, -EReal.coe_mul]; norm_num
theorem five_eq : five = ((5 : ℝ) : EReal) := by
  unfold five; simp [Ideal.ofBits, Ideal.ieee, -EReal.coe_mul]; norm_num
theorem minusOne_eq : minusOne = ((-1 : ℝ) : EReal) := by
  unfold minusOne; simp [Ideal.ofBits, Ideal.ieee, -EReal.coe_mul]; norm_num

variable (q : Fin 64 → EReal) (k : Fin 64 → Fin 64 → EReal) (t : Nat)

/-- The product of a block's key with the query, an eighth of it, nothing for a block that has not ended. -/
def masked (j : Fin 64) : EReal := if 64 * j.val + 63 ≤ t then (∑ x, k j x * q x) * eighth else ⊥
/-- The greatest of them. -/
def top : EReal := Finset.fold max ⊥ (masked q k t) Finset.univ
/-- The exponential of the distance below the greatest. -/
def weight (j : Fin 64) : EReal := Ideal.exp (masked q k t j - top q k t)
/-- The softmax, zero on a block that has not ended. -/
def prob (j : Fin 64) : EReal :=
  if 64 * j.val + 63 ≤ t then Ideal.div (weight q k t j) (∑ x, weight q k t x) else 0
/-- The score of a block from the sum of the heads' softmax. -/
def score (imp : EReal) (j : Nat) : EReal :=
  if j = 0 ∨ j = t / 64 ∨ j + 1 = t / 64 then five else if 64 * j ≤ t then imp else minusOne

variable {q k t}

/-- An extended real that is neither infinity. -/
def Fin' (x : EReal) : Prop := x ≠ ⊥ ∧ x ≠ ⊤

theorem sub_self' {x : EReal} (h : Fin' x) : x - x = 0 := EReal.sub_self h.2 h.1

theorem coe_sum {n : Nat} (f : Fin n → ℝ) : ((∑ x, f x : ℝ) : EReal) = ∑ x, (f x : EReal) :=
  map_sum (⟨⟨Real.toEReal, rfl⟩, EReal.coe_add⟩ : ℝ →+ EReal) f Finset.univ

theorem product_real (hq : ∀ x, Fin' (q x)) (hk : ∀ j x, Fin' (k j x)) (j : Fin 64) :
    ∃ r : ℝ, (∑ x, k j x * q x) * eighth = (r : EReal) := by
  refine ⟨(∑ x, (k j x).toReal * (q x).toReal) * (1 / 8), ?_⟩
  rw [eighth_eq, EReal.coe_mul, coe_sum]
  refine congrArg (· * _) (Finset.sum_congr rfl fun x _ => ?_)
  rw [EReal.coe_mul, EReal.coe_toReal (hk j x).2 (hk j x).1, EReal.coe_toReal (hq x).2 (hq x).1]

theorem exp_nonneg (x : EReal) : 0 ≤ Ideal.exp x := by
  induction x with
  | bot => exact le_refl _
  | top => exact le_top
  | coe r => exact EReal.coe_nonneg.mpr (Real.exp_pos r).le

theorem weight_nonneg (j : Fin 64) : 0 ≤ weight q k t j := exp_nonneg _

/-- From token 63 on the greatest masked product is a real, and it is attained. -/
theorem top_real (hq : ∀ x, Fin' (q x)) (hk : ∀ j x, Fin' (k j x)) (ht : 63 ≤ t) :
    ∃ (r : ℝ) (j : Fin 64), top q k t = r ∧ masked q k t j = r := by
  have hsup : top q k t = Finset.univ.sup (masked q k t) := rfl
  obtain ⟨j, -, hj⟩ := Finset.exists_mem_eq_sup Finset.univ ⟨0, Finset.mem_univ _⟩ (masked q k t)
  obtain ⟨r0, h0⟩ := product_real hq hk 0
  have hle : (r0 : EReal) ≤ masked q k t j := by
    rw [← hj, ← h0]
    refine le_trans (le_of_eq ?_) (Finset.le_sup (Finset.mem_univ (0 : Fin 64)))
    unfold masked; rw [if_pos (by simpa using ht)]
  obtain ⟨r, hr⟩ := product_real hq hk j
  refine ⟨r, j, hsup.trans (hj.trans ?_), ?_⟩ <;>
  · unfold masked at hle ⊢
    split_ifs at hle ⊢ with h
    · exact hr
    · exact absurd hle (not_le.mpr (EReal.bot_lt_coe _))

theorem sum_weight_ne (hq : ∀ x, Fin' (q x)) (hk : ∀ j x, Fin' (k j x)) (ht : 63 ≤ t) : ∑ x, weight q k t x ≠ 0 := by
  obtain ⟨r, j, h1, h2⟩ := top_real hq hk ht
  have hj : weight q k t j = 1 := by
    unfold weight; rw [h1, h2, ← EReal.coe_sub, sub_self]
    show ((Real.exp 0 : ℝ) : EReal) = 1
    rw [Real.exp_zero]; rfl
  have : (1 : EReal) ≤ ∑ x, weight q k t x := by
    rw [← hj]; exact Finset.single_le_sum (fun x _ => weight_nonneg x) (Finset.mem_univ j)
  intro h0; rw [h0] at this; exact absurd this (by norm_num)

/-- A block that has not ended has no weight, once some block has. -/
theorem weight_open (hq : ∀ x, Fin' (q x)) (hk : ∀ j x, Fin' (k j x)) (ht : 63 ≤ t) (j : Fin 64) (h : ¬ 64 * j.val + 63 ≤ t) :
    weight q k t j = 0 := by
  obtain ⟨r, -, h1, -⟩ := top_real hq hk ht
  unfold weight masked; rw [if_neg h, h1]; rfl

/-- The softmax as the weight times one quotient, masked by the token alone. -/
theorem prob_eq (hq : ∀ x, Fin' (q x)) (hk : ∀ j x, Fin' (k j x)) (j : Fin 64) :
    (if 63 ≤ t then weight q k t j * Ideal.div 1 (∑ x, weight q k t x) else 0) = prob q k t j := by
  unfold prob
  by_cases ht : 63 ≤ t
  · rw [if_pos ht]
    have hne := sum_weight_ne (q := q) (k := k) hq hk ht
    unfold Ideal.div; rw [if_neg hne, if_neg hne, one_mul]
    split_ifs with h
    · rfl
    · rw [weight_open hq hk ht j h, zero_mul]
  · rw [if_neg ht, if_neg (by omega)]

theorem prob_nonneg (hq : ∀ x, Fin' (q x)) (hk : ∀ j x, Fin' (k j x)) (j : Fin 64) : 0 ≤ prob q k t j := by
  unfold prob
  split_ifs with h
  · have hne := sum_weight_ne (q := q) (k := k) (t := t) hq hk (by omega)
    unfold Ideal.div; rw [if_neg hne]
    exact mul_nonneg (weight_nonneg j) (EReal.inv_nonneg_of_nonneg (Finset.sum_nonneg fun x _ => weight_nonneg x))
  · exact le_refl _

/-- No block that has not begun beats one that has. -/
theorem not_beats (imp : Fin 64 → EReal) (himp : ∀ j, 0 ≤ imp j) (p j : Fin 64) (hj : 64 * j.val ≤ t) (hp : t < 64 * p.val) :
    ¬ Rank.Beats (fun j => score t (imp j) j.val) p j := by
  have hsp : score t (imp p) p.val = minusOne := by
    unfold score; rw [if_neg (by omega), if_neg (by omega)]
  have hsj : minusOne < score t (imp j) j.val := by
    have h0 : minusOne < 0 := by rw [minusOne_eq]; exact_mod_cast (by norm_num : (-1 : ℝ) < 0)
    unfold score; split_ifs
    · rw [five_eq]; exact h0.trans (by exact_mod_cast (by norm_num : (0 : ℝ) < 5))
    · exact h0.trans_le (himp j)
  unfold Rank.Beats
  show ¬ (score t (imp j) j.val < score t (imp p) p.val ∨ (score t (imp p) p.val = score t (imp j) j.val ∧ p < j))
  rw [hsp]
  rintro (h | ⟨h, -⟩)
  · exact lt_asymm h hsj
  · exact absurd h hsj.ne

/-- Counting the blocks below a bound past every begun block gives the rank. -/
theorem rank_eq (imp : Fin 64 → EReal) (himp : ∀ j, 0 ≤ imp j) (j : Fin 64) (hj : 64 * j.val ≤ t) (N : Nat) (hN : t < 64 * N) :
    (Finset.univ.filter fun p : Fin 64 => p.val < N ∧ Rank.Beats (fun j => score t (imp j) j.val) p j).card
      = Rank.rank (fun j => score t (imp j) j.val) j := by
  unfold Rank.rank
  congr 1
  refine Finset.filter_congr fun p _ => ⟨fun h => h.2, fun h => ⟨?_, h⟩⟩
  by_contra hp
  exact not_beats imp himp p j hj (by omega) h

end Cert.Layer.Cmp
end
-- ==== Proof.CmpBits.lean ====
module
public import Idealize.ShloMosaic.Lib.Pointwise
@[expose] public section

/-! The index arithmetic of the compressed attention on 32-bit words: block and token numbers are small, so the words compare and divide as
the numbers do. -/

noncomputable section
open Idealize.ShloMosaic

namespace Cert.Layer.Cmp

theorem select_ofBool {α : Type} (b : Bool) (x y : α) : Scalar.select (BitVec.ofBool b) x y = if b then x else y := by
  cases b <;> rfl

theorem andi_ofBool (a b : Bool) : IntOp.andi (BitVec.ofBool a) (BitVec.ofBool b) = BitVec.ofBool (a && b) := by
  revert a b; decide
theorem ori_ofBool (a b : Bool) : IntOp.ori (BitVec.ofBool a) (BitVec.ofBool b) = BitVec.ofBool (a || b) := by
  revert a b; decide

theorem toInt_ofNat {a : Nat} (ha : a < 2 ^ 31) : (BitVec.ofNat 32 a).toInt = a := by
  have h : (BitVec.ofNat 32 a).toNat = a := by rw [BitVec.toNat_ofNat]; exact Nat.mod_eq_of_lt (by omega)
  rw [BitVec.toInt_eq_toNat_of_lt (by omega), h]

section
variable {a b : Nat} (ha : a < 2 ^ 31) (hb : b < 2 ^ 31)
include ha hb

theorem sle_ofNat : IntOp.cmpi .sle (BitVec.ofNat 32 a) (BitVec.ofNat 32 b) = BitVec.ofBool (decide (a ≤ b)) := by
  show BitVec.ofBool (BitVec.sle _ _) = _
  unfold BitVec.sle
  rw [toInt_ofNat ha, toInt_ofNat hb]
  exact congrArg _ (decide_eq_decide.mpr Int.ofNat_le)
theorem slt_ofNat : IntOp.cmpi .slt (BitVec.ofNat 32 a) (BitVec.ofNat 32 b) = BitVec.ofBool (decide (a < b)) := by
  show BitVec.ofBool (BitVec.slt _ _) = _
  unfold BitVec.slt
  rw [toInt_ofNat ha, toInt_ofNat hb]
  exact congrArg _ (decide_eq_decide.mpr Int.ofNat_lt)
theorem sge_ofNat : IntOp.cmpi .sge (BitVec.ofNat 32 a) (BitVec.ofNat 32 b) = BitVec.ofBool (decide (b ≤ a)) := sle_ofNat hb ha
theorem sgt_ofNat : IntOp.cmpi .sgt (BitVec.ofNat 32 a) (BitVec.ofNat 32 b) = BitVec.ofBool (decide (b < a)) := slt_ofNat hb ha
theorem eq_ofNat : IntOp.cmpi .eq (BitVec.ofNat 32 a) (BitVec.ofNat 32 b) = BitVec.ofBool (decide (a = b)) := by
  show BitVec.ofBool (BitVec.ofNat 32 a == BitVec.ofNat 32 b) = _
  refine congrArg _ ?_
  rw [Bool.eq_iff_iff, beq_iff_eq, decide_eq_true_eq]
  refine ⟨fun h => ?_, fun h => h ▸ rfl⟩
  have h' := congrArg BitVec.toNat h
  rw [BitVec.toNat_ofNat, BitVec.toNat_ofNat, Nat.mod_eq_of_lt (by omega), Nat.mod_eq_of_lt (by omega)] at h'
  exact h'
end

theorem addi_ofNat (a b : Nat) : IntOp.addi (BitVec.ofNat 32 a) (BitVec.ofNat 32 b) = BitVec.ofNat 32 (a + b) := (BitVec.ofNat_add a b).symm
theorem muli_ofNat (a b : Nat) : IntOp.muli (BitVec.ofNat 32 a) (BitVec.ofNat 32 b) = BitVec.ofNat 32 (a * b) := (BitVec.ofNat_mul a b).symm

/-- The last token of a block, as the programs compute it. -/
theorem last_token (j : Fin 64) :
    IntOp.subi (IntOp.muli (IntOp.addi (BitVec.ofNat 32 j.val) 1#32) 64#32) 1#32 = BitVec.ofNat 32 (64 * j.val + 63) := by
  revert j; decide +kernel

end Cert.Layer.Cmp
end
-- ==== Proof.CmpBody.lean ====
module
public import proofs.«01_k».proof.Defs
public import proofs.«01_k».proof.Proof.Gen.KernelIdeal.Value
public import proofs.«01_k».proof.Proof.CmpSpec
public import proofs.«01_k».proof.Proof.CmpBits
public import Idealize.ShloMosaic.Lib.Pointwise
@[expose] public section
set_option maxRecDepth 16384

/-! One point of the compressed-attention kernel: what each of its vector expressions is at an index, and with that the two blocks it
stores, as the plain mathematics of `CmpSpec`. -/

noncomputable section
open Idealize.ShloMosaic Idealize.ShloMosaic.TcCoe Idealize.SL.Sem
open scoped BigOperators
namespace Cert.Layer.Cmp
open Cert.KernelIdeal Cert.KernelIdeal.Gen

theorem entry_congr {n m : Nat} {α : Type} (f : (⟨2, ![n, m]⟩ : Shape).Idx → α) {a a' : Fin n} {b b' : Fin m} (ha : a.val = a'.val) (hb : b.val = b'.val) :
    f (ix2 a b) = f (ix2 a' b') := by rw [Fin.ext ha, Fin.ext hb]

/-- Equal pieces under one another, read at a row. -/
theorem stacked {α : Type} {N n m T : Nat} (v : Fin N → (⟨2, ![n, m]⟩ : Shape).Idx → α) (h) (r : Fin T) (p : Fin m) (hk : r.val / n < N) (hn : 0 < n) :
    concatenate (⟨2, ![T, m]⟩ : Shape) (0 : Fin 2) (List.ofFn fun k => (⟨⟨2, ![n, m]⟩, v k⟩ : (s : Shape) × (s.Idx → α))) h (ix2 r p)
      = v ⟨r.val / n, hk⟩ (ix2 ⟨r.val % n, Nat.mod_lt _ hn⟩ p) :=
  concatenate_ofFn_apply (t := ⟨2, ![T, m]⟩) (0 : Fin 2) v h rfl n rfl (ix2 r p) ⟨r.val / n, hk⟩ rfl (ix2 ⟨r.val % n, Nat.mod_lt _ hn⟩ p) rfl fun b hb => by
    fin_cases b
    · exact absurd rfl hb
    · rfl

/-- Equal pieces beside one another, read at a column. -/
theorem beside {α : Type} {N n m T : Nat} (v : Fin N → (⟨2, ![n, m]⟩ : Shape).Idx → α) (h) (r : Fin n) (p : Fin T) (hk : p.val / m < N) (hn : 0 < m) :
    concatenate (⟨2, ![n, T]⟩ : Shape) (1 : Fin 2) (List.ofFn fun k => (⟨⟨2, ![n, m]⟩, v k⟩ : (s : Shape) × (s.Idx → α))) h (ix2 r p)
      = v ⟨p.val / m, hk⟩ (ix2 r ⟨p.val % m, Nat.mod_lt _ hn⟩) :=
  concatenate_ofFn_apply (t := ⟨2, ![n, T]⟩) (1 : Fin 2) v h rfl m rfl (ix2 r p) ⟨p.val / m, hk⟩ rfl (ix2 r ⟨p.val % m, Nat.mod_lt _ hn⟩) rfl fun b hb => by
    fin_cases b
    · rfl
    · exact absurd rfl hb

theorem stacked2 {α : Type} {n m T : Nat} (v : Fin 2 → (⟨2, ![n, m]⟩ : Shape).Idx → α) (h) (r : Fin T) (p : Fin m) (hk : r.val / n < 2) (hn : 0 < n) :
    concatenate (⟨2, ![T, m]⟩ : Shape) (0 : Fin 2) [⟨⟨2, ![n, m]⟩, v 0⟩, ⟨⟨2, ![n, m]⟩, v 1⟩] h (ix2 r p)
      = v ⟨r.val / n, hk⟩ (ix2 ⟨r.val % n, Nat.mod_lt _ hn⟩ p) := stacked v h r p hk hn
theorem beside2 {α : Type} {n m T : Nat} (v : Fin 2 → (⟨2, ![n, m]⟩ : Shape).Idx → α) (h) (r : Fin n) (p : Fin T) (hk : p.val / m < 2) (hn : 0 < m) :
    concatenate (⟨2, ![n, T]⟩ : Shape) (1 : Fin 2) [⟨⟨2, ![n, m]⟩, v 0⟩, ⟨⟨2, ![n, m]⟩, v 1⟩] h (ix2 r p)
      = v ⟨p.val / m, hk⟩ (ix2 r ⟨p.val % m, Nat.mod_lt _ hn⟩) := beside v h r p hk hn
theorem stacked4 {α : Type} {n m T : Nat} (v : Fin 4 → (⟨2, ![n, m]⟩ : Shape).Idx → α) (h) (r : Fin T) (p : Fin m) (hk : r.val / n < 4) (hn : 0 < n) :
    concatenate (⟨2, ![T, m]⟩ : Shape) (0 : Fin 2) [⟨⟨2, ![n, m]⟩, v 0⟩, ⟨⟨2, ![n, m]⟩, v 1⟩, ⟨⟨2, ![n, m]⟩, v 2⟩, ⟨⟨2, ![n, m]⟩, v 3⟩] h (ix2 r p)
      = v ⟨r.val / n, hk⟩ (ix2 ⟨r.val % n, Nat.mod_lt _ hn⟩ p) := stacked v h r p hk hn
theorem beside4 {α : Type} {n m T : Nat} (v : Fin 4 → (⟨2, ![n, m]⟩ : Shape).Idx → α) (h) (r : Fin n) (p : Fin T) (hk : p.val / m < 4) (hn : 0 < m) :
    concatenate (⟨2, ![n, T]⟩ : Shape) (1 : Fin 2) [⟨⟨2, ![n, m]⟩, v 0⟩, ⟨⟨2, ![n, m]⟩, v 1⟩, ⟨⟨2, ![n, m]⟩, v 2⟩, ⟨⟨2, ![n, m]⟩, v 3⟩] h (ix2 r p)
      = v ⟨p.val / m, hk⟩ (ix2 r ⟨p.val % m, Nat.mod_lt _ hn⟩) := beside v h r p hk hn
theorem stacked8 {α : Type} {n m T : Nat} (v : Fin 8 → (⟨2, ![n, m]⟩ : Shape).Idx → α) (h) (r : Fin T) (p : Fin m) (hk : r.val / n < 8) (hn : 0 < n) :
    concatenate (⟨2, ![T, m]⟩ : Shape) (0 : Fin 2) [⟨⟨2, ![n, m]⟩, v 0⟩, ⟨⟨2, ![n, m]⟩, v 1⟩, ⟨⟨2, ![n, m]⟩, v 2⟩, ⟨⟨2, ![n, m]⟩, v 3⟩, ⟨⟨2, ![n, m]⟩, v 4⟩, ⟨⟨2, ![n, m]⟩, v 5⟩, ⟨⟨2, ![n, m]⟩, v 6⟩, ⟨⟨2, ![n, m]⟩, v 7⟩] h (ix2 r p)
      = v ⟨r.val / n, hk⟩ (ix2 ⟨r.val % n, Nat.mod_lt _ hn⟩ p) := stacked v h r p hk hn

theorem slices8 (k : Fin 8) : S128x1024.Slices ![0, 128 * k.val] S128x128 := by fin_cases k <;> decide
theorem slices4 (k : Fin 4) : S1024x64.Slices ![256 * k.val, 0] S256x64 := by fin_cases k <;> decide
theorem slices4' (k : Fin 4) : S256x256.Slices ![64 * k.val, 0] S64x256 := by fin_cases k <;> decide
theorem slices4'' (k : Fin 4) : S256x256.Slices ![0, 64 * k.val] S256x64 := by fin_cases k <;> decide
theorem slices2 (k l : Fin 2) : S256x256.Slices ![128 * l.val, 128 * k.val] S128x128 := by fin_cases k <;> fin_cases l <;> decide
theorem slices2' (k : Fin 2) : S128x256.Slices ![0, 128 * k.val] S128x128 := by fin_cases k <;> decide

/-! ### The operands -/

/-- The query of a column of the tile: head `c / 256`, token `c % 256`. -/
def query (x0 : Vec Ideal S1x256x256 .f32) (c : Fin 1024) (d : Fin 64) : EReal :=
  x0 (ix3 0 ⟨c.val % 256, by omega⟩ ⟨c.val / 256 * 64 + d.val, by omega⟩)
/-- The key of a block, for head group `g`. -/
def key (g : Fin 2) (x1 : Vec Ideal S1x128x256 .f32) (j d : Fin 64) : EReal :=
  x1 (ix3 0 ⟨j.val, by omega⟩ ⟨g.val * 64 + d.val, by omega⟩)
/-- The value of a block. -/
def value (g : Fin 2) (x1 : Vec Ideal S1x128x256 .f32) (j d : Fin 64) : EReal :=
  x1 (ix3 0 ⟨j.val, by omega⟩ ⟨128 + (g.val * 64 + d.val), by omega⟩)

section
variable (i : grid0.Coords) (x0 : Vec Ideal S1x256x256 .f32) (x1 : Vec Ideal S1x128x256 .f32)

theorem pay2_apply (r c : Fin 256) : (k0_pay2 (F := Ideal) x0 (ix2 r c) : EReal) = x0 (ix3 0 r c) := by
  pointwise [k0_pay2]

theorem pay3_apply (d : Fin 64) (c : Fin 1024) : (k0_pay3 (F := Ideal) x0 (ix2 c d) : EReal) = query x0 c d := by
  unfold k0_pay3 query
  rw [← pay2_apply x0]
  generalize k0_pay2 (F := Ideal) x0 = w
  refine (stacked4 (fun k => extractStridedSlice S256x64 ![0, 64 * k.val] w (slices4'' k)) _ c d (by omega) (by decide)).trans ?_
  pointwise []
  exact entry_congr _ rfl (by show 64 * (c.val / 256) + d.val = c.val / 256 * 64 + d.val; omega)

theorem pay4_apply (d : Fin 64) (c : Fin 1024) : (k0_pay4 (F := Ideal) x0 (ix2 d c) : EReal) = query x0 c d := by
  unfold k0_pay4 query
  rw [← pay2_apply x0]
  generalize k0_pay2 (F := Ideal) x0 = w
  dsimp only
  generalize hw : concatenate S256x256 1 _ _ = v17
  have h (r c : Fin 256) : (v17 (ix2 r c) : EReal) = w (ix2 c r) := by
    rw [← hw]
    refine (beside2 (fun l => concatenate S256x128 0 [⟨S128x128, transpose S128x128 [1, 0] (extractStridedSlice S128x128 ![128 * l.val, 128 * (0 : Fin 2).val] w (slices2 0 l)) transposes_S128x128_p1_0_S128x128⟩, ⟨S128x128, transpose S128x128 [1, 0] (extractStridedSlice S128x128 ![128 * l.val, 128 * (1 : Fin 2).val] w (slices2 1 l)) transposes_S128x128_p1_0_S128x128⟩] concatenates_S128x128_S128x128_S256x128_d0) _ r c (by omega) (by decide)).trans ?_
    refine (stacked2 (fun k => transpose S128x128 [1, 0] (extractStridedSlice S128x128 ![128 * (c.val / 128), 128 * k.val] w (slices2 k ⟨c.val / 128, by omega⟩)) transposes_S128x128_p1_0_S128x128) _ r _ (by omega) (by decide)).trans ?_
    pointwise []
    exact entry_congr _ (by show 128 * (c.val / 128) + c.val % 128 = c.val; omega) (by show 128 * (r.val / 128) + r.val % 128 = r.val; omega)
  clear hw
  refine (beside4 (fun k => extractStridedSlice S64x256 ![64 * k.val, 0] v17 (slices4' k)) _ d c (by omega) (by decide)).trans ?_
  rw [← h]
  pointwise []
  exact entry_congr _ (by show 64 * (c.val / 256) + d.val = c.val / 256 * 64 + d.val; omega) rfl

theorem group_eq {n : Nat} (hn : n < 2) : Scalar.cmpi .eq (BitVec.ofNat 32 n) 0#32 = BitVec.ofBool (decide (n = 0)) :=
  eq_ofNat (a := n) (b := 0) (by omega) (by omega)

theorem entry3_congr {n m l : Nat} {α : Type} (f : (⟨3, ![n, m, l]⟩ : Shape).Idx → α) {a a' : Fin n} {b b' : Fin m} {c c' : Fin l}
    (ha : a.val = a'.val) (hb : b.val = b'.val) (hc : c.val = c'.val) : f (ix3 a b c) = f (ix3 a' b' c') := by
  rw [Fin.ext ha, Fin.ext hb, Fin.ext hc]

theorem pay6_apply (j d : Fin 64) : (k0_pay6 (F := Ideal) i x1 (ix2 j d) : EReal) = key (i 1) x1 j d := by
  pointwise [k0_pay6, k0_pay5]
  have hg : (i 1).val < 2 := (i 1).isLt
  refine (congrArg (Scalar.select · _ _) (group_eq hg)).trans ?_
  rw [select_ofBool]
  unfold key
  by_cases h : (i 1).val = 0
  · rw [if_pos (decide_eq_true h)]
    exact entry3_congr x1 rfl rfl (by show d.val = (i 1).val * 64 + d.val; omega)
  · rw [if_neg (by simpa using h)]
    exact entry3_congr x1 rfl rfl (by show 64 + d.val = (i 1).val * 64 + d.val; omega)
theorem pay7_apply (j : Fin 64) (d : Fin 64) : (k0_pay7 (F := Ideal) i x1 (ix2 (j.castLE (by omega)) d) : EReal) = value (i 1) x1 j d := by
  pointwise [k0_pay7, k0_pay5]
  have hg : (i 1).val < 2 := (i 1).isLt
  refine (congrArg (Scalar.select · _ _) (group_eq hg)).trans ?_
  rw [select_ofBool]
  unfold value
  by_cases h : (i 1).val = 0
  · rw [if_pos (decide_eq_true h)]
    exact entry3_congr x1 rfl rfl (by show 128 + d.val = 128 + ((i 1).val * 64 + d.val); omega)
  · rw [if_neg (by simpa using h)]
    exact entry3_congr x1 rfl rfl (by show 192 + d.val = 128 + ((i 1).val * 64 + d.val); omega)
theorem pay9_apply (j d : Fin 64) : (k0_pay9 (F := Ideal) i x1 (ix2 j d) : EReal) = k0_pay6 (F := Ideal) i x1 (ix2 j d) := by
  pointwise [k0_pay9]
theorem pay8_apply (d : Fin 64) (c : Fin 1024) : (k0_pay8 (F := Ideal) x0 (ix2 d c) : EReal) = k0_pay4 (F := Ideal) x0 (ix2 d c) := by
  pointwise [k0_pay8]

/-- The product of block and query: the second parts that bf16 rounding would leave are zero over the reals. -/
theorem dot_apply (hq : ∀ d c, Fin' (query x0 c d)) (hk : ∀ j d, Fin' (key (i 1) x1 j d)) (j : Fin 64) (c : Fin 1024) :
    (addf (k0_pay10 (F := Ideal) i x0 x1) (k0_pay11 (F := Ideal) i x0 x1) (ix2 j c) : EReal) = ∑ d, key (i 1) x1 j d * query x0 c d := by
  pointwise [k0_pay10, k0_pay11]
  simp only [pay9_apply, pay8_apply, pay6_apply, pay4_apply]
  simp only [sub_self' (hq _ _), sub_self' (hk _ _), mul_zero, zero_mul, Finset.sum_const_zero, add_zero]
theorem pay12_apply (a : Nat) (d : Fin 64) (tt : Fin 256) : k0_pay12 (BitVec.ofNat 32 a) (ix2 d tt) = BitVec.ofNat 32 (a * 256 + tt.val) := by
  rw [← addi_ofNat, ← muli_ofNat]
  pointwise [k0_pay12]
  rfl
end

theorem negInf : Ideal.ofBits .f32 0xFF800000#32 = ⊥ := by simp [Ideal.ofBits, Ideal.ieee]
theorem zeroBits : Ideal.ofBits .f32 0x00000000#32 = 0 := by simp [Ideal.ofBits, Ideal.ieee]

section
variable {q : Fin 1024 → Fin 64 → EReal} {k : Fin 64 → Fin 64 → EReal} (v44 v45 : FVec Ideal S64x1024 .f32)
  (hv : ∀ j c, (addf v44 v45 (ix2 j c) : EReal) = ∑ d, k j d * q c d) (a : Nat) (ha : a < 16)
include hv ha

/-- The exponentials of the tile. -/
theorem pay13_apply (j : Fin 64) (c : Fin 1024) :
    (k0_pay13 (F := Ideal) (BitVec.ofNat 32 a) v44 v45 (ix2 j c) : EReal) = weight (q c) k (a * 256 + c.val % 256) j := by
  unfold k0_pay13
  generalize addf v44 v45 = v46 at hv
  dsimp only
  generalize hw : concatenate S64x1024 1 _ _ = v67
  have h (j : Fin 64) (c : Fin 1024) : (v67 (ix2 j c) : EReal) = if 64 * j.val + 63 ≤ a * 256 + c.val % 256 then 0 else ⊥ := by
    rw [← hw]
    clear hw
    generalize hx : select (α := Ideal .f32) (s := S64x256) _ _ _ = v66
    have h' (d : Fin 64) (tt : Fin 256) : (v66 (ix2 d tt) : EReal) = if 64 * d.val + 63 ≤ a * 256 + tt.val then 0 else ⊥ := by
      rw [← hx]
      pointwise []
      rw [last_token, pay12_apply, sle_ofNat (by omega) (by omega)]
      rw [show IntOp.cmpi .slt (BitVec.ofNat 32 d.val) 64#32 = BitVec.ofBool (decide (d.val < 64)) from slt_ofNat (b := 64) (by omega) (by omega),
        andi_ofBool, select_ofBool]
      simp only [d.isLt, decide_true, Bool.and_true, decide_eq_true_eq]
      rfl
    exact (beside4 (n := 64) (m := 256) (T := 1024) (fun _ => v66) _ j c (by omega) (by decide)).trans (h' _ _)
  clear hw
  have h1 (j : Fin 64) (c : Fin 1024) : v46 (ix2 j c) * eighth + v67 (ix2 j c) = masked (q c) k (a * 256 + c.val % 256) j := by
    rw [hv, h]; unfold masked; split_ifs
    · rw [add_zero]
    · rw [EReal.add_bot]
  unfold weight top
  simp only [← h1]
  rw [← negInf]
  pointwise []
  rfl
end

/-- The lane's token within the tile, as the kernel computes it. -/
theorem mod_tower (l : Fin 1024) :
    Scalar.select (IntOp.andi (IntOp.xori (IntOp.cmpi .slt (IntOp.remsi .vector (BitVec.ofNat 32 l.val) (Scalar.select (Scalar.cmpi .eq 256#32 0#32) 1#32 256#32)) 0#32)
          (Scalar.cmpi .slt (Scalar.select (Scalar.cmpi .eq 256#32 0#32) 1#32 256#32) 0#32))
        (IntOp.cmpi .ne (IntOp.remsi .vector (BitVec.ofNat 32 l.val) (Scalar.select (Scalar.cmpi .eq 256#32 0#32) 1#32 256#32)) 0#32))
      (IntOp.addi (IntOp.remsi .vector (BitVec.ofNat 32 l.val) (Scalar.select (Scalar.cmpi .eq 256#32 0#32) 1#32 256#32)) (Scalar.select (Scalar.cmpi .eq 256#32 0#32) 1#32 256#32))
      (IntOp.remsi .vector (BitVec.ofNat 32 l.val) (Scalar.select (Scalar.cmpi .eq 256#32 0#32) 1#32 256#32)) = BitVec.ofNat 32 (l.val % 256) := by
  revert l; decide +kernel

/-- The normalised softmax of the tile. -/
theorem pay17_apply (v : FVec Ideal S64x1024 .f32) (a : Nat) (ha : a < 16) (d : Fin 64) (l : Fin 1024) :
    (k0_pay17 (F := Ideal) v (Scalar.muli (BitVec.ofNat 32 a) 256#32) k0_pay14 k0_pay15 k0_pay16 (ix2 d l) : EReal)
      = if 63 ≤ a * 256 + l.val % 256 then v (ix2 d l) * Ideal.div 1 (∑ x, v (ix2 x l)) else 0 := by
  pointwise [k0_pay17, k0_pay14, k0_pay15, k0_pay16]
  rw [mod_tower, show Scalar.muli (BitVec.ofNat 32 a) 256#32 = BitVec.ofNat 32 (a * 256) from muli_ofNat a 256, addi_ofNat,
    show IntOp.cmpi .sge (BitVec.ofNat 32 (a * 256 + l.val % 256)) 63#32 = _ from sge_ofNat (b := 63) (by omega) (by omega), select_ofBool]
  simp only [decide_eq_true_eq]

set_option maxHeartbeats 1000000 in
/-- The output block: the values against the softmax, heads beside one another. -/
theorem pay18_apply (v33 : FVec Ideal S128x64 .f32) (v73 : FVec Ideal S64x1024 .f32) (v74 : BitVec 32) (v79 : IVec S1x1024 32) (v88 : IVec S1x1024 1) (v89 : IVec S1x1024 32) (tt l : Fin 256) :
  (k0_pay18 (F := Ideal) v33 v73 v74 v79 v88 v89 (ix3 0 tt l) : EReal) = ∑ x : Fin 64, v33 (ix2 (x.castLE (by omega)) ⟨l.val % 64, by omega⟩) * k0_pay17 (F := Ideal) v73 v74 v79 v88 v89 (ix2 x ⟨l.val / 64 * 256 + tt.val, by omega⟩) := by
  unfold k0_pay18
  dsimp only
  generalize hv : matmul (F := Ideal) (φ₁ := .bf16) (φ₂ := .bf16) dot_S64x64_S64x1024_S64x1024_1_0_0_1_n_n none _ _ _ = v110
  have h : (v110 (ix2 ⟨l.val % 64, by omega⟩ ⟨l.val / 64 * 256 + tt.val, by omega⟩) : EReal) = ∑ x : Fin 64, v33 (ix2 (x.castLE (by omega)) ⟨l.val % 64, by omega⟩) * k0_pay17 (F := Ideal) v73 v74 v79 v88 v89 (ix2 x ⟨l.val / 64 * 256 + tt.val, by omega⟩) := by
    rw [← hv]
    pointwise []
    exact Finset.sum_congr rfl fun x _ => by rw [dif_pos (by omega)]; rfl
  rw [← h]
  clear hv h
  generalize hw : concatenate S128x1024 0 _ _ = v112
  have h (r : Fin 1024) (p : Fin 64) : (v112 (ix2 (p.castLE (by omega)) r) : EReal) = v110 (ix2 p r) := by
    rw [← hw]
    pointwise []
    exact dif_pos p.isLt
  rw [← h]
  clear hw h
  generalize hw : concatenate S1024x128 0 _ _ = v129
  have h (r : Fin 1024) (p : Fin 128) : (v129 (ix2 r p) : EReal) = v112 (ix2 p r) := by
    rw [← hw]
    refine (stacked8 (fun k => transpose S128x128 [1, 0] (extractStridedSlice S128x128 ![0, 128 * k.val] v112 (slices8 k)) transposes_S128x128_p1_0_S128x128) _ r p (by omega) (by decide)).trans ?_
    pointwise []
    exact entry_congr v112 rfl (by show 128 * (r.val / 128) + r.val % 128 = r.val; omega)
  rw [← h]
  clear hw h
  generalize hw : concatenate S256x256 1 _ _ = v135
  have h : (v135 (ix2 tt l) : EReal) = v129 (ix2 ⟨l.val / 64 * 256 + tt.val, by omega⟩ ⟨l.val % 64, by omega⟩) := by
    rw [← hw]
    refine (beside4 (fun k => extractStridedSlice S256x64 ![256 * k.val, 0] (extractStridedSlice S1024x64 ![0, 0] v129 slices_S1024x128_o0_0_S1024x64) (slices4 k)) _ tt l (by omega) (by decide)).trans ?_
    pointwise []
    exact entry_congr v129 (by show 256 * (l.val / 64) + tt.val = l.val / 64 * 256 + tt.val; omega) rfl
  refine Eq.trans ?_ h
  clear hw h
  pointwise []

/-- The block of a token, as the kernel computes it. -/
theorem block_tower (t : Fin 4096) :
    Scalar.select (IntOp.andi
        (IntOp.cmpi .ne (IntOp.subi (BitVec.setWidth 32 (IntOp.cmpi .sgt (BitVec.ofNat 32 t.val) 0#32)) (BitVec.setWidth 32 (IntOp.cmpi .slt (BitVec.ofNat 32 t.val) 0#32)))
          (Scalar.subi (Scalar.extui (Scalar.cmpi .sgt 64#32 0#32)) (Scalar.extui (Scalar.cmpi .slt 64#32 0#32))))
        (IntOp.cmpi .ne (IntOp.remsi .vector (BitVec.ofNat 32 t.val) 64#32) 0#32))
      (IntOp.subi (IntOp.divsi .vector (BitVec.ofNat 32 t.val) 64#32) 1#32)
      (IntOp.divsi .vector (BitVec.ofNat 32 t.val) 64#32) = BitVec.ofNat 32 (t.val / 64) := by
  revert t; decide +kernel

theorem previous (j c : Fin 64) :
    IntOp.cmpi .eq (BitVec.ofNat 32 j.val) (IntOp.subi (BitVec.ofNat 32 c.val) 1#32) = BitVec.ofBool (decide (j.val + 1 = c.val)) := by
  revert j c; decide +kernel

/-- The tile's scores. -/
theorem pay19_apply (a : Nat) (ha : a < 16) (v : FVec Ideal S64x1024 .f32) (d : Fin 64) (l : Fin 256) :
    (k0_pay19 (F := Ideal) (iota .tc S64x256 32 [0] iota_S64x256_d0_w32) (k0_pay12 (BitVec.ofNat 32 a)) v (ix2 d l) : EReal)
      = score (a * 256 + l.val) (∑ r : Fin 4, v (ix2 d ⟨r.val * 256 + l.val, by omega⟩)) d.val := by
  pointwise [k0_pay19]
  simp only [pay12_apply]
  rw [block_tower ⟨a * 256 + l.val, by omega⟩]
  simp only []
  rw [eq_ofNat (b := (a * 256 + l.val) / 64) (by omega) (by omega), previous d ⟨(a * 256 + l.val) / 64, by omega⟩,
    show IntOp.cmpi .eq (BitVec.ofNat 32 d.val) 0#32 = _ from eq_ofNat (b := 0) (by omega) (by omega),
    show IntOp.muli (BitVec.ofNat 32 d.val) 64#32 = _ from muli_ofNat d.val 64, sle_ofNat (by omega) (by omega),
    ori_ofBool, ori_ofBool, select_ofBool, select_ofBool, Fin.sum_univ_four]
  unfold score
  simp only [Bool.or_eq_true, decide_eq_true_eq, or_assoc, mul_comm d.val 64]
  refine if_congr Iff.rfl rfl (if_congr Iff.rfl ?_ rfl)
  congr 3 <;> exact entry_congr v rfl (by simp)

theorem iv_eq (k : Nat) (hk : k < 64) : Scf.iv 0#32 1#32 k = BitVec.ofNat 32 k := by
  unfold Scf.iv; simp

theorem beats_words (x y : EReal) (k d : Nat) :
    (if k < d then (if x ≤ y then 1#32 else 0#32) else if x < y then 1#32 else 0#32) = BitVec.ofNat 32 (if x < y ∨ (y = x ∧ k < d) then 1 else 0) := by
  by_cases hd : k < d
  · simp only [hd, if_true, and_true, le_iff_lt_or_eq, eq_comm]
    split_ifs <;> rfl
  · simp only [hd, if_false, and_false, or_false]
    split_ifs <;> rfl

/-- One trip of the counting loop. -/
theorem pay22_apply (i : grid0.Coords) (sc : Vec Ideal S64x256 .f32) (k : Fin (k0_t1_loop i).trips) (hk : k.val < 64) (n : Nat) (acc : IVec S64x256 32)
    (row : Vec Ideal S1x256 .f32) (d : Fin 64) (tt : Fin 256) (hrow : row (ix2 0 tt) = sc (ix2 ⟨k.val, hk⟩ tt)) (hacc : acc (ix2 d tt) = BitVec.ofNat 32 n) :
    k0_pay22 (F := Ideal) i (iota .tc S64x256 32 [0] iota_S64x256_d0_w32) sc k acc row (ix2 d tt)
      = BitVec.ofNat 32 (n + if Rank.Beats (fun j => (sc (ix2 j tt) : EReal)) ⟨k.val, hk⟩ d then 1 else 0) := by
  pointwise [k0_pay22]
  rw [hacc, hrow, iv_eq _ hk, sgt_ofNat (by omega) (by omega), select_ofBool, ← addi_ofNat]
  refine congrArg _ ?_
  simp only [decide_eq_true_eq]
  refine (beats_words _ _ _ _).trans (congrArg _ ?_)
  exact if_congr Iff.rfl rfl rfl

theorem pay24_apply (acc : IVec S64x256 32) (n : Nat) (hn : n ≤ 64) (d : Fin 64) (tt : Fin 256) (hacc : acc (ix2 d tt) = BitVec.ofNat 32 n) :
    k0_pay24 acc (ix2 d tt) = BitVec.ofBool (decide (n < 16)) := by
  pointwise [k0_pay24]
  rw [hacc]
  exact slt_ofNat (b := 16) (by omega) (by omega)

/-- The query-with-bias block: the query's lanes beside the bias of each block. -/
theorem pay1_apply (a : Nat) (ha : a < 2) (v6 : FVec Ideal S1024x64 .f32) (v220 : IVec S64x256 1) (z : Ideal .f32) (r : Fin 1024) (l : Fin 128) :
    (k0_pay1 (F := Ideal) (BitVec.ofNat 32 a) v6 v220 z k0_pay25 (ix5 0 0 0 r l) : EReal)
      = if l.val / 64 = a then v6 (ix2 r ⟨l.val % 64, by omega⟩) * Ideal.ofBits .f32 0x3E38AA3B#32
        else Scalar.select (v220 (ix2 ⟨l.val % 64, by omega⟩ ⟨r.val % 256, by omega⟩)) 0 z := by
  unfold k0_pay1
  generalize hx : select (α := Ideal .f32) (s := S64x256) v220 _ _ = v223
  have h (d : Fin 64) (tt : Fin 256) : (v223 (ix2 d tt) : EReal) = Scalar.select (v220 (ix2 d tt)) 0 z := by
    rw [← hx]
    pointwise [k0_pay25]
  rw [← h]
  clear hx h
  dsimp only
  generalize hw : concatenate S128x256 0 _ _ = v225
  have h (d : Fin 64) (tt : Fin 256) : v225 (ix2 (d.castLE (by omega)) tt) = v223 (ix2 d tt) := by
    rw [← hw]
    pointwise []
    exact dif_pos d.isLt
  rw [← h]
  clear hw h
  generalize hw : concatenate S256x128 0 _ _ = v230
  have h (tt : Fin 256) (p : Fin 128) : v230 (ix2 tt p) = v225 (ix2 p tt) := by
    rw [← hw]
    refine (stacked2 (fun k => transpose S128x128 [1, 0] (extractStridedSlice S128x128 ![0, 128 * k.val] v225 (slices2' k)) transposes_S128x128_p1_0_S128x128) _ tt p (by omega) (by decide)).trans ?_
    pointwise []
    exact entry_congr v225 rfl (by show 128 * (tt.val / 128) + tt.val % 128 = tt.val; omega)
  rw [← h]
  clear hw h
  generalize hw : concatenate S1024x64 0 _ _ = v232
  have h (r : Fin 1024) (d : Fin 64) : v232 (ix2 r d) = v230 (ix2 ⟨r.val % 256, by omega⟩ (d.castLE (by omega))) := by
    rw [← hw]
    refine (stacked4 (fun _ => extractStridedSlice S256x64 ![0, 0] v230 slices_S256x128_o0_0_S256x64) _ r d (by omega) (by decide)).trans ?_
    pointwise []
    rfl
  rw [show (v230 (ix2 ⟨r.val % 256, by omega⟩ (Fin.castLE (by omega) ⟨l.val % 64, by omega⟩)) : EReal) = v232 (ix2 r ⟨l.val % 64, by omega⟩) from (h r ⟨l.val % 64, by omega⟩).symm]
  clear hw h
  pointwise []
  rw [group_eq ha, select_ofBool]
  have hl' : l.val < 128 := l.isLt
  by_cases hl : l.val < 64 <;> by_cases h0 : a = 0
  · have e1 : l.val / 64 = a := by omega
    have e2 : l.val = l.val % 64 := by omega
    rw [if_pos (by simpa using h0), dif_pos hl]
    exact (congrArg (· * _) (entry_congr v6 rfl e2)).trans (if_pos e1).symm
  · have e1 : ¬ l.val / 64 = a := by omega
    have e2 : l.val = l.val % 64 := by omega
    rw [if_neg (by simpa using h0), dif_pos hl]
    exact (entry_congr v232 rfl e2).trans (if_neg e1).symm
  · have e1 : ¬ l.val / 64 = a := by omega
    have e2 : l.val - 64 = l.val % 64 := by omega
    rw [if_pos (by simpa using h0), dif_neg hl]
    exact (entry_congr v232 rfl e2).trans (if_neg e1).symm
  · have e1 : l.val / 64 = a := by omega
    have e2 : l.val - 64 = l.val % 64 := by omega
    rw [if_neg (by simpa using h0), dif_neg hl]
    exact (congrArg (· * _) (entry_congr v6 rfl e2)).trans (if_pos e1).symm
end Cert.Layer.Cmp
end
-- ==== Proof.CmpPoint.lean ====
module
public import proofs.«01_k».proof.Proof.CmpBody
public import Idealize.ShloMosaic.Lib.Pipeline.ValueKit.Tiles
@[expose] public section
set_option maxRecDepth 16384

/-! What one point of the compressed-attention kernel stores: the blocks its run leaves, as the plain mathematics of `CmpSpec`. -/

noncomputable section
open Idealize.ShloMosaic Idealize.ShloMosaic.TcCoe Idealize.SL.Sem
open scoped BigOperators
namespace Cert.Layer.Cmp
open Cert.KernelIdeal Cert.KernelIdeal.Gen

theorem trips1 (i : grid0.Coords) : (k0_t1_loop i).trips = 4 * (i 2).val + 4 := by
  unfold k0_t1_loop
  generalize i 2 = n
  revert n
  decide +kernel

theorem trips2 (i : grid0.Coords) : (k0_t2_loop i).trips = 0 := by
  unfold k0_t2_loop
  generalize i 2 = n
  revert n
  decide +kernel

theorem hz2 : (![0, 0] : Fin 2 → Nat) = fun _ => 0 := funext fun a => by fin_cases a <;> rfl
theorem hz3 : (![0, 0, 0] : Fin 3 → Nat) = fun _ => 0 := funext fun a => by fin_cases a <;> rfl
theorem hz5 : (![0, 0, 0, 0, 0] : Fin 5 → Nat) = fun _ => 0 := funext fun a => by fin_cases a <;> rfl

section
variable (c : Dev nD) (i : grid0.Coords) (arg3 : Memref sig .tc .vmem S1x256x256 .f32) (h3 : arg3.IsWhole) (arg4 : Memref sig .tc .vmem S1x128x256 .f32) (h4 : arg4.IsWhole) (arg5 : Memref sig .tc .vmem S1x256x256 .f32) (h5 : arg5.IsWhole) (arg6 : Memref sig .tc .vmem S1x1x1x1024x128 .bf16) (h6 : arg6.IsWhole) (arg7 : Memref sig .tc .vmem S64x256 .f32) (h7 : arg7.IsWhole)
    (x0 : Vec Ideal S1x256x256 .f32) (x1 : Vec Ideal S1x128x256 .f32)

/-- The softmax of the tile as the run computes it. -/
abbrev soft : FVec Ideal S64x1024 .f32 := k0_pay17 (k0_pay13 (BitVec.ofNat 32 (i 2).val) (k0_pay10 i x0 x1) (k0_pay11 i x0 x1)) (Scalar.muli (BitVec.ofNat 32 (i 2).val) 256#32) k0_pay14 k0_pay15 k0_pay16
/-- The scores of the tile as the run computes them. -/
abbrev scores : FVec Ideal S64x256 .f32 := k0_pay19 (iota .tc S64x256 32 [0] iota_S64x256_d0_w32) (k0_pay12 (BitVec.ofNat 32 (i 2).val)) (soft i x0 x1)
/-- What the scratch buffer holds while the blocks are counted. -/
def kept (sc : FVec Ideal S64x256 .f32) : BufTy.Contents (Elt Ideal) arg7.view.ty :=
  arg7.view.writes (Elt Ideal) arg7.view.junk [⟨Rect.unit ![0, 0] S64x256.size inb_S64x256_S64x256_0_0, sc⟩]

theorem pay20_eq (sc : Vec Ideal S64x256 .f32) : k0_pay20 (F := Ideal) sc = sc := by
  unfold k0_pay20
  exact shapeCast_id sc _

theorem out2_eq : out0_A_2 (F := Ideal) c i arg3 h3 arg4 h4 arg5 h5 arg6 h6 arg7 h7 x0 x1 =
   k0_pay18 (k0_pay7 i x1) (k0_pay13 (BitVec.ofNat 32 (i 2).val) (k0_pay10 i x0 x1) (k0_pay11 i x0 x1)) (Scalar.muli (BitVec.ofNat 32 (i 2).val) 256#32) k0_pay14 k0_pay15 k0_pay16 := by
  unfold out0_A_2
  rw [View.read_writes_eq_canon _ _ _ (cover0_A_2 c i arg3 h3 arg4 h4 arg5 h5 arg6 h6 arg7 h7 x0 x1)]
  unfold kernelRun0_A
  dsimp only
  sl_unfold_words
  rw [View.canon_unit_zero (by first | exact hz3 | exact hz5)]
  simp only [View.readAt_eq_ld, h3.read_unread, h4.read_unread, View.ld_unit_zero (S := S1x256x256) hz3, View.ld_unit_zero (S := S1x128x256) hz3]

theorem out3_eq : out0_A_3 (F := Ideal) c i arg3 h3 arg4 h4 arg5 h5 arg6 h6 arg7 h7 x0 x1 =
    k0_pay1 (BitVec.ofNat 32 (i 1).val) (k0_pay3 x0)
      (k0_pay24 (st_k0_t1 Variants.none c none i arg3 h3 arg4 h4 arg5 h5 arg6 h6 arg7 h7 (BitVec.ofNat 32 (i 2).val) (iota .tc S64x256 32 [0] iota_S64x256_d0_w32)
        (scores i x0 x1) (scores i x0 x1) (kept arg7 (scores i x0 x1)) k0_pay21 (4 * (i 2).val + 4)))
      (Named.named κ "mask" 0xF149F2CA#32) k0_pay25 := by
  unfold out0_A_3
  rw [View.read_writes_eq_canon _ _ _ (cover0_A_3 c i arg3 h3 arg4 h4 arg5 h5 arg6 h6 arg7 h7 x0 x1)]
  unfold kernelRun0_A
  dsimp only
  unfold kernelRun0_A.sl.r_8
  rw [View.canon_unit_zero hz5]
  unfold kernelRun0_A.sl.v188 kernelRun0_A.sl.HS0_1 kernelRun0_A.sl.v49 kernelRun0_A.sl.r_7 kernelRun0_A.sl.r
  have e1 : Scf.trips (k0_t1_loop i).lb (k0_t1_loop i).ub (k0_t1_loop i).st = 4 * (i 2).val + 4 := trips1 i
  have e2 : Scf.trips (k0_t2_loop i).lb (k0_t2_loop i).ub (k0_t2_loop i).st = 0 := trips2 i
  rw [e1, e2]
  unfold st_k0_t2
  unfold kernelRun0_A.sl.v49 kernelRun0_A.sl.r_4 kernelRun0_A.sl.r_6 kernelRun0_A.sl.cst_64
  sl_unfold_words
  simp only [View.readCov_unit_zero (S := S64x256) _ hz2, pay20_eq, View.readAt_eq_ld, h3.read_unread, h4.read_unread, View.ld_unit_zero (S := S1x256x256) hz3, View.ld_unit_zero (S := S1x128x256) hz3]
  rfl

/-- One trip of the counting loop on the buffer. -/
theorem trip1_eq (v49 : IVec S64x256 32) (v184 : FVec Ideal S64x256 .f32) (v188 : Vec Ideal S64x256 .f32) (X : BufTy.Contents (Elt Ideal) arg7.view.ty) (k : Fin (k0_t1_loop i).trips) (acc : IVec S64x256 32) :
   tripR_k0_t1 (F := Ideal) Variants.none c none i arg3 h3 arg4 h4 arg5 h5 arg6 h6 arg7 h7 (BitVec.ofNat 32 (i 2).val) v49 v184 v188 X k acc =
     k0_pay22 i v49 v188 k acc (View.readAt (Elt Ideal) arg7.view (Rect.unit (s := S64x256) (k0_off1 i k) S1x256.size (k0_off1_inb i k)).toLoadRect X) := by
  unfold tripR_k0_t1 trip_k0_t1
  dsimp only

theorem off1_eq (k : Fin (k0_t1_loop i).trips) (hk : k.val < 64) : k0_off1 i k = ![k.val, 0] := by
  show ![(Scalar.indexCast (Scf.iv 0#32 1#32 k.val)).toNat, 0] = _
  rw [iv_eq _ hk]
  have h (n : Fin 64) : (Scalar.indexCast (BitVec.ofNat 32 n.val)).toNat = n.val := by revert n; decide +kernel
  rw [h ⟨k.val, hk⟩]

theorem covers (sc : FVec Ideal S64x256 .f32) {off : Fin 2 → Nat} (h : off = fun _ => 0) (inb : ∀ a, off a + S64x256.size a ≤ S64x256.size a) (y : S64x256.Idx) :
    ∃ p ∈ [(⟨Rect.unit off S64x256.size inb, sc⟩ : View.Piece (Elt Ideal) S64x256 .f32)], y ∈ p.1.set := by
  subst h
  refine ⟨_, List.mem_singleton_self _, ?_⟩
  show y ∈ (Rect.whole S64x256).set
  rw [Rect.set_whole]; exact Finset.mem_univ y

/-- The row of scores a trip reads. -/
theorem row_eq (k : Fin (k0_t1_loop i).trips) (hk : k.val < 64) (tt : Fin 256) (sc : FVec Ideal S64x256 .f32) :
    (View.readAt (Elt Ideal) arg7.view (Rect.unit (s := S64x256) (k0_off1 i k) S1x256.size (k0_off1_inb i k)).toLoadRect (kept arg7 sc)) (ix2 0 tt) = sc (ix2 ⟨k.val, hk⟩ tt) := by
  unfold kept
  rw [View.readAt_eq_ld, View.read_writes_eq_canon _ _ _ (covers sc hz2 _)]
  rw [View.canon_unit_zero hz2]
  refine congrArg sc (funext fun a => Fin.ext ?_)
  refine (Rect.idx_unit_val (s := S64x256) (k0_off1 i k) S1x256.size (k0_off1_inb i k) (ix2 0 tt) a).trans ?_
  refine (congrArg (· + _) (congrFun (off1_eq i k hk) a)).trans ?_
  fin_cases a
  · rfl
  · show 0 + tt.val = tt.val
    omega

theorem card_succ (B : Fin 64 → Prop) [DecidablePred B] (k : Fin 64) :
    (Finset.univ.filter fun p : Fin 64 => p.val < k.val + 1 ∧ B p).card
      = (Finset.univ.filter fun p : Fin 64 => p.val < k.val ∧ B p).card + if B k then 1 else 0 := by
  by_cases hB : B k
  · rw [if_pos hB, ← Finset.card_insert_of_notMem (a := k) (by simp)]
    congr 1
    ext p
    simp only [Finset.mem_filter, Finset.mem_univ, true_and, Finset.mem_insert]
    constructor
    · rintro ⟨h, h'⟩
      by_cases e : p = k
      · exact Or.inl e
      · exact Or.inr ⟨by have := Fin.val_ne_of_ne e; omega, h'⟩
    · rintro (rfl | ⟨h, h'⟩)
      · exact ⟨by omega, hB⟩
      · exact ⟨by omega, h'⟩
  · rw [if_neg hB, add_zero]
    congr 1
    ext p
    simp only [Finset.mem_filter, Finset.mem_univ, true_and]
    constructor
    · rintro ⟨h, h'⟩
      refine ⟨?_, h'⟩
      by_contra hn
      exact hB ((Fin.ext (by omega) : p = k) ▸ h')
    · rintro ⟨h, h'⟩
      exact ⟨by omega, h'⟩

/-- How many of the first blocks beat a block, after so many trips. -/
theorem count_eq (sc : FVec Ideal S64x256 .f32) (d : Fin 64) (tt : Fin 256) (K : Nat) (hK : K ≤ 4 * (i 2).val + 4) :
    st_k0_t1 Variants.none c none i arg3 h3 arg4 h4 arg5 h5 arg6 h6 arg7 h7 (BitVec.ofNat 32 (i 2).val) (iota .tc S64x256 32 [0] iota_S64x256_d0_w32)
        sc sc (kept arg7 sc) k0_pay21 K (ix2 d tt)
      = BitVec.ofNat 32 (Finset.univ.filter fun p : Fin 64 => p.val < K ∧ Rank.Beats (fun j => (sc (ix2 j tt) : EReal)) p d).card := by
  have h16 : (i 2).val < 16 := (i 2).isLt
  induction K with
  | zero =>
    rw [st_k0_t1_zero]
    simp only [Nat.not_lt_zero, false_and, Finset.filter_false, Finset.card_empty]
    pointwise [k0_pay21]
  | succ K ih =>
    have hk : K < (k0_t1_loop i).trips := by rw [trips1]; omega
    have e := st_k0_t1_succ (F := Ideal) Variants.none c none i arg3 h3 arg4 h4 arg5 h5 arg6 h6 arg7 h7 (BitVec.ofNat 32 (i 2).val) (iota .tc S64x256 32 [0] iota_S64x256_d0_w32)
        sc sc (kept arg7 sc) k0_pay21 ⟨K, hk⟩
    refine (congrFun e (ix2 d tt)).trans ?_
    rw [trip1_eq, pay22_apply i sc ⟨K, hk⟩ (by show K < 64; omega) _ _ _ d tt (row_eq i arg7 ⟨K, hk⟩ (by show K < 64; omega) tt sc) (ih (by omega))]
    exact congrArg _ (card_succ _ ⟨K, by omega⟩).symm

section
variable (hq : ∀ d c, Fin' (query x0 c d)) (hk : ∀ j d, Fin' (key (i 1) x1 j d))
include hq hk

theorem soft_apply (d : Fin 64) (l : Fin 1024) :
    (soft i x0 x1 (ix2 d l) : EReal) = prob (query x0 l) (key (i 1) x1) ((i 2).val * 256 + l.val % 256) d := by
  have h16 : (i 2).val < 16 := (i 2).isLt
  have hv := dot_apply i x0 x1 hq hk
  refine (pay17_apply _ _ h16 d l).trans ?_
  simp only [pay13_apply _ _ hv _ h16]
  exact prob_eq (fun x => hq x l) hk d

/-- The summed softmax of the four heads of a token. -/
def importance (t : Nat) (tt : Fin 256) (j : Fin 64) : EReal := ∑ r : Fin 4, prob (query x0 ⟨r.val * 256 + tt.val, by omega⟩) (key (i 1) x1) t j

theorem scores_apply (d : Fin 64) (tt : Fin 256) :
    (scores i x0 x1 (ix2 d tt) : EReal) = score ((i 2).val * 256 + tt.val) (importance i x0 x1 ((i 2).val * 256 + tt.val) tt d) d.val := by
  have h16 : (i 2).val < 16 := (i 2).isLt
  refine (pay19_apply _ h16 _ d tt).trans ?_
  unfold importance
  refine congrArg (score _ · _) (Finset.sum_congr rfl fun r _ => ?_)
  rw [soft_apply i x0 x1 hq hk]
  refine congrArg (prob _ _ · _) ?_
  show (i 2).val * 256 + (r.val * 256 + tt.val) % 256 = _
  omega

/-- The stored attention output. -/
theorem out2_apply (tt l : Fin 256) :
    (out0_A_2 (F := Ideal) c i arg3 h3 arg4 h4 arg5 h5 arg6 h6 arg7 h7 x0 x1 (ix3 0 tt l) : EReal)
      = ∑ x : Fin 64, value (i 1) x1 x ⟨l.val % 64, by omega⟩
          * prob (query x0 ⟨l.val / 64 * 256 + tt.val, by omega⟩) (key (i 1) x1) ((i 2).val * 256 + tt.val) x := by
  rw [out2_eq, pay18_apply]
  refine Finset.sum_congr rfl fun x _ => ?_
  rw [pay7_apply i x1]
  refine congrArg (_ * ·) ((soft_apply i x0 x1 hq hk x _).trans (congrArg (prob _ _ · _) ?_))
  show (i 2).val * 256 + (l.val / 64 * 256 + tt.val) % 256 = _
  omega

/-- The stored queries with the bias of each block. -/
theorem out3_apply (r : Fin 1024) (l : Fin 128) :
    (out0_A_3 (F := Ideal) c i arg3 h3 arg4 h4 arg5 h5 arg6 h6 arg7 h7 x0 x1 (ix5 0 0 0 r l) : EReal)
      = if l.val / 64 = (i 1).val then query x0 r ⟨l.val % 64, by omega⟩ * Ideal.ofBits .f32 0x3E38AA3B#32
        else if (Finset.univ.filter fun p : Fin 64 => p.val < 4 * (i 2).val + 4 ∧ Rank.Beats (fun j => score ((i 2).val * 256 + r.val % 256)
            (importance i x0 x1 ((i 2).val * 256 + r.val % 256) ⟨r.val % 256, by omega⟩ j) j.val) p ⟨l.val % 64, by omega⟩).card < 16 then 0 else ⊥ := by
  have h2 : (i 1).val < 2 := (i 1).isLt
  rw [out3_eq]
  refine (pay1_apply _ h2 _ _ _ r l).trans ?_
  rw [pay3_apply]
  refine if_congr Iff.rfl rfl ?_
  rw [pay24_apply _ _ (by exact (Finset.card_le_univ _)) _ _ (count_eq c i arg3 h3 arg4 h4 arg5 h5 arg6 h6 arg7 h7 (scores i x0 x1) _ _ _ (le_refl _)), select_ofBool]
  simp only [decide_eq_true_eq, scores_apply i x0 x1 hq hk]
  rfl
end
end
end Cert.Layer.Cmp
end
-- ==== Proof.CmpKernel.lean ====
module
public import proofs.«01_k».proof.Proof.CmpPoint
public import proofs.«01_k».proof.Proof.Gen.KernelIdeal.Value
public import Idealize.ShloMosaic.Lib.Pipeline.Covers
@[expose] public section
set_option maxRecDepth 16384

/-! The two result arrays of the compressed-attention call, from its arguments: the blocks of all grid points put together. -/

noncomputable section
open Idealize.ShloMosaic Idealize.ShloMosaic.TcCoe Idealize.SL.Sem
open scoped BigOperators
namespace Cert.Layer.Cmp

/-! ## The arguments read as queries, keys and values of one head group -/

abbrev Acts : Type := FVec Ideal Cert.KernelIdeal.S2x4096x4096 .f32
abbrev Means : Type := FVec Ideal Cert.KernelIdeal.S2x64x256 .f32

/-- Query of token `t`, head `r` of group `g`. -/
def gq (x : Acts) (b g : Fin 2) (r : Fin 4) (t : Fin 4096) (d : Fin 64) : EReal :=
  x (ix3 b t ⟨2560 + (g.val * 256 + r.val * 64 + d.val), by omega⟩)
/-- Mean key of block `j`, group `g`. -/
def gk (y : Means) (b g : Fin 2) (j d : Fin 64) : EReal := y (ix3 b j ⟨g.val * 64 + d.val, by omega⟩)
/-- Mean value of block `j`, group `g`. -/
def gv (y : Means) (b g : Fin 2) (j d : Fin 64) : EReal := y (ix3 b j ⟨128 + (g.val * 64 + d.val), by omega⟩)

/-- The score block `j` is chosen by: the four heads' weights added, with the forced and the not yet begun blocks set. -/
def choice (x : Acts) (y : Means) (b g : Fin 2) (t : Fin 4096) (j : Fin 64) : EReal :=
  score t.val (∑ r : Fin 4, prob (gq x b g r t) (gk y b g) t.val j) j.val

/-- The attention output. -/
def attended (x : Acts) (y : Means) (b : Fin 2) (t : Fin 4096) (l : Fin 512) : EReal :=
  ∑ j : Fin 64, gv y b ⟨l.val / 256, by omega⟩ j ⟨l.val % 64, by omega⟩
    * prob (gq x b ⟨l.val / 256, by omega⟩ ⟨l.val / 64 % 4, by omega⟩ t) (gk y b ⟨l.val / 256, by omega⟩) t.val j

theorem attended_at (x : Acts) (y : Means) (b g : Fin 2) (t : Fin 4096) (l : Fin 256) (L : Fin 512) (hL : L.val = g.val * 256 + l.val) :
    attended x y b t L = ∑ j : Fin 64, gv y b g j ⟨l.val % 64, by omega⟩ * prob (gq x b g ⟨l.val / 64, by omega⟩ t) (gk y b g) t.val j := by
  unfold attended
  have e1 : (⟨L.val / 256, by omega⟩ : Fin 2) = g := Fin.ext (by show L.val / 256 = g.val; omega)
  have e2 : (⟨L.val % 64, by omega⟩ : Fin 64) = ⟨l.val % 64, by omega⟩ := Fin.ext (by show L.val % 64 = l.val % 64; omega)
  have e3 : (⟨L.val / 64 % 4, by omega⟩ : Fin 4) = ⟨l.val / 64, by omega⟩ := Fin.ext (by show L.val / 64 % 4 = l.val / 64; omega)
  rw [e1, e2, e3]

/-- A row of the second result: the scaled query in the group's own 64 lanes, the bias of each block in the others. -/
def biased (x : Acts) (y : Means) (b g : Fin 2) (i : Fin 16) (r : Fin 1024) (l : Fin 128) : EReal :=
  if l.val / 64 = g.val then gq x b g ⟨r.val / 256, by omega⟩ ⟨i.val * 256 + r.val % 256, by omega⟩ ⟨l.val % 64, by omega⟩ * Ideal.ofBits .f32 0x3E38AA3B#32
  else if (Finset.univ.filter fun p : Fin 64 => p.val < 4 * i.val + 4
      ∧ Rank.Beats (choice x y b g ⟨i.val * 256 + r.val % 256, by omega⟩) p ⟨l.val % 64, by omega⟩).card < 16 then 0 else ⊥

end Cert.Layer.Cmp

namespace Cert.KernelIdeal.Value
open Cert.KernelIdeal Cert.KernelIdeal.Gen Cert.Layer.Cmp

variable (m : (ℓ : Loc nD τ sig) → Buf (Elt Ideal) ℓ) (c : Dev nD)

/-! ## The arguments as the call finds them, and the blocks of point `t` -/

theorem V_v0 (b : Fin 2) (j : Fin 64) (l : Fin 256) : (V m c main_v0 : S2x128x256.Idx → EReal) (ix3 b ⟨j.val, by omega⟩ l) = m (c.tc.loc main_arg1) (ix3 b j l) := by
  simp only [V, hostOps0, hostOps0_1, List.flatten_cons, List.flatten_nil, List.cons_append, List.nil_append]
  after_results
  refine (show _ = (pad S2x128x256 ![0, 0, 0] ![0, 64, 0] ![0, 0, 0] (show FVec Ideal S2x64x256 .f32 from m (c.tc.loc main_arg1))
    (show FVec Ideal S_ .f32 from sitofp .f32 (constantI S_ 32 0#32)) pads_S2x64x256_S2x128x256_000_0640_000 h_S_) (ix3 b ⟨j.val, by omega⟩ l) from rfl).trans ?_
  pointwise

abbrev batch (t : Fin cfg0.N) : Fin 2 := grid0.coords t 0
abbrev group (t : Fin cfg0.N) : Fin 2 := grid0.coords t 1
abbrev tile (t : Fin cfg0.N) : Fin 16 := grid0.coords t 2

theorem index_facts : ∀ t : Fin cfg0.N,
    (win0_0.index t 0 = (batch t).val ∧ win0_0.index t 1 = (tile t).val ∧ win0_0.index t 2 = 10 + (group t).val)
    ∧ (win0_1.index t 0 = (batch t).val ∧ win0_1.index t 1 = 0 ∧ win0_1.index t 2 = 0)
    ∧ (win0_2.index t 0 = (batch t).val ∧ win0_2.index t 1 = (tile t).val ∧ win0_2.index t 2 = (group t).val)
    ∧ (win0_3.index t 0 = (batch t).val ∧ win0_3.index t 1 = (group t).val ∧ win0_3.index t 2 = (tile t).val
        ∧ win0_3.index t 3 = 0 ∧ win0_3.index t 4 = 0) :=
  (by decide +kernel : ∀ t : Fin grid0.N, _)

theorem blk_q (t : Fin cfg0.N) (r : Fin 1024) (d : Fin 64) :
    query (iblk m c 0 t) r d = gq (m (c.tc.loc main_arg0)) (batch t) (group t) ⟨r.val / 256, by omega⟩
      ⟨(tile t).val * 256 + r.val % 256, by have := (tile t).isLt; omega⟩ d := by
  have hi := (index_facts t).1
  unfold query gq iblk
  rw [View.read_apply]
  show V m c main_arg0 _ = _
  rw [V_main_arg0]
  congr 1
  funext a
  apply Fin.ext
  match a with
  | ⟨0, _⟩ => show win0_0.index t 0 * 1 + 1 * 0 = (batch t).val; rw [hi.1]; omega
  | ⟨1, _⟩ => show win0_0.index t 1 * 256 + 1 * (r.val % 256) = (tile t).val * 256 + r.val % 256; rw [hi.2.1]; omega
  | ⟨2, _⟩ => show win0_0.index t 2 * 256 + 1 * (r.val / 256 * 64 + d.val) = 2560 + ((group t).val * 256 + r.val / 256 * 64 + d.val); rw [hi.2.2]; omega

theorem blk_means (t : Fin cfg0.N) (j : Fin 64) (l : Fin 256) :
    (iblk m c 1 t : FVec Ideal S1x128x256 .f32) (ix3 0 ⟨j.val, by omega⟩ l) = m (c.tc.loc main_arg1) (ix3 (batch t) j l) := by
  have hi := (index_facts t).2.1
  unfold iblk
  rw [View.read_apply, ← V_v0 m c]
  show V m c main_v0 _ = _
  congr 1
  funext a
  apply Fin.ext
  match a with
  | ⟨0, _⟩ => show win0_1.index t 0 * 1 + 1 * 0 = (batch t).val; rw [hi.1]; omega
  | ⟨1, _⟩ => show win0_1.index t 1 * 128 + 1 * j.val = j.val; rw [hi.2.1]; omega
  | ⟨2, _⟩ => show win0_1.index t 2 * 256 + 1 * l.val = l.val; rw [hi.2.2]; omega

theorem blk_k (t : Fin cfg0.N) (j d : Fin 64) : key (group t) (iblk m c 1 t) j d = gk (m (c.tc.loc main_arg1)) (batch t) (group t) j d :=
  blk_means m c t j _
theorem blk_v (t : Fin cfg0.N) (j d : Fin 64) : value (group t) (iblk m c 1 t) j d = gv (m (c.tc.loc main_arg1)) (batch t) (group t) j d :=
  blk_means m c t j _

/-! ## The results -/

/-- The queries and the mean keys hold numbers. -/
structure Numbers : Prop where
  q : ∀ b g r t d, Fin' (gq (m (c.tc.loc main_arg0)) b g r t d)
  k : ∀ b g j d, Fin' (gk (m (c.tc.loc main_arg1)) b g j d)

abbrev result2 : Buf (Elt Ideal) ((c : Thread nD τ).loc main_v1_0) := fun (i : S2x4096x512.Idx) =>
  attended (m (c.tc.loc main_arg0)) (m (c.tc.loc main_arg1)) (i 0) (i 1) (i 2)
abbrev result3 : Buf (Elt Ideal) ((c : Thread nD τ).loc main_v1_1) := fun (i : S2x2x16x1024x128.Idx) =>
  biased (m (c.tc.loc main_arg0)) (m (c.tc.loc main_arg1)) (i 0) (i 1) (i 2) (i 3) (i 4)

variable (hn : Numbers m c)
include hn

theorem fin_q (t : Fin cfg0.N) (d : Fin 64) (r : Fin 1024) : Fin' (query (iblk m c 0 t) r d) := by rw [blk_q]; exact hn.q ..
theorem fin_k (t : Fin cfg0.N) (j d : Fin 64) : Fin' (key (grid0.coords t 1) (iblk m c 1 t) j d) := by
  have := blk_k m c t j d
  rw [show key (grid0.coords t 1) (iblk m c 1 t) j d = _ from this]; exact hn.k ..

theorem flushed2_eq (t : Fin cfg0.N) : (dats m 0 c).flushed 2 t = ((cfg0.win 2).blk t).view.read (Elt Ideal) (result2 m c) := by
  have hi := (index_facts t).2.2.1
  have hT := (tile t).isLt
  have hG := (group t).isLt
  rw [flushed2_A]
  funext (j : S1x256x256.Idx)
  obtain ⟨z, tt, l, rfl⟩ : ∃ (z : Fin 1) (tt l : Fin 256), j = ix3 z tt l := ⟨j 0, j 1, j 2, eq_ix3 j⟩
  obtain rfl : z = 0 := Subsingleton.elim _ _
  show out0_A_2 (F := Ideal) c (grid0.coords t) (ms0_0 t) (hs0_0 t) (ms0_1 t) (hs0_1 t) (ms0_2 t) (hs0_2 t) (ms0_3 t) (hs0_3 t) scM0_0 (Memref.isWhole_whole _)
    (iblk m c 0 t) (iblk m c 1 t) (ix3 0 tt l) = _
  rw [out2_apply _ _ _ _ _ _ _ _ _ _ _ _ _ _ (fin_q m c hn t) (fin_k m c hn t), View.read_apply]
  show _ = attended _ _ ((((cfg0.win 2).blk t).view.emb (ix3 (0 : Fin 1) tt l) : S2x4096x512.Idx) 0)
    ((((cfg0.win 2).blk t).view.emb (ix3 (0 : Fin 1) tt l) : S2x4096x512.Idx) 1) ((((cfg0.win 2).blk t).view.emb (ix3 (0 : Fin 1) tt l) : S2x4096x512.Idx) 2)
  rw [show ((((cfg0.win 2).blk t).view.emb (ix3 (0 : Fin 1) tt l) : S2x4096x512.Idx) 0) = batch t from Fin.ext (by
      show win0_2.index t 0 * 1 + 1 * 0 = (batch t).val; rw [hi.1]; omega),
    show ((((cfg0.win 2).blk t).view.emb (ix3 (0 : Fin 1) tt l) : S2x4096x512.Idx) 1) = (⟨(tile t).val * 256 + tt.val, by omega⟩ : Fin 4096) from Fin.ext (by
      show win0_2.index t 1 * 256 + 1 * tt.val = (tile t).val * 256 + tt.val; rw [hi.2.1]; omega),
    show ((((cfg0.win 2).blk t).view.emb (ix3 (0 : Fin 1) tt l) : S2x4096x512.Idx) 2) = (⟨(group t).val * 256 + l.val, by omega⟩ : Fin 512) from Fin.ext (by
      show win0_2.index t 2 * 256 + 1 * l.val = (group t).val * 256 + l.val; rw [hi.2.2]; omega)]
  refine Eq.trans ?_ (attended_at (m (c.tc.loc main_arg0)) (m (c.tc.loc main_arg1)) (batch t) (group t) ⟨(tile t).val * 256 + tt.val, by omega⟩ l _ rfl).symm
  have hqq : query (iblk m c 0 t) ⟨l.val / 64 * 256 + tt.val, by omega⟩ = gq (m (c.tc.loc main_arg0)) (batch t) (group t) ⟨l.val / 64, by omega⟩
      ⟨(tile t).val * 256 + tt.val, by omega⟩ := by
    funext d
    rw [blk_q]
    congr 1
    · exact Fin.ext (by show (l.val / 64 * 256 + tt.val) / 256 = l.val / 64; omega)
    · exact Fin.ext (by show (tile t).val * 256 + (l.val / 64 * 256 + tt.val) % 256 = (tile t).val * 256 + tt.val; omega)
  have hkk : key (group t) (iblk m c 1 t) = gk (m (c.tc.loc main_arg1)) (batch t) (group t) := funext fun j => funext fun d => blk_k m c t j d
  have hvv : value (group t) (iblk m c 1 t) = gv (m (c.tc.loc main_arg1)) (batch t) (group t) := funext fun j => funext fun d => blk_v m c t j d
  show ∑ x : Fin 64, value (group t) (iblk m c 1 t) x _ * prob (query (iblk m c 0 t) _) (key (group t) (iblk m c 1 t)) _ x = _
  rw [hqq, hkk, hvv]

theorem flushed3_eq (t : Fin cfg0.N) : (dats m 0 c).flushed 3 t = ((cfg0.win 3).blk t).view.read (Elt Ideal) (result3 m c) := by
  have hi := (index_facts t).2.2.2
  have hT := (tile t).isLt
  have hG := (group t).isLt
  rw [flushed3_A]
  funext (j : S1x1x1x1024x128.Idx)
  obtain ⟨z0, z1, z2, r, l, rfl⟩ : ∃ (z0 z1 z2 : Fin 1) (r : Fin 1024) (l : Fin 128), j = ix5 z0 z1 z2 r l := ⟨j 0, j 1, j 2, j 3, j 4, eq_ix5 j⟩
  obtain rfl : z0 = 0 := Subsingleton.elim _ _
  obtain rfl : z1 = 0 := Subsingleton.elim _ _
  obtain rfl : z2 = 0 := Subsingleton.elim _ _
  show out0_A_3 (F := Ideal) c (grid0.coords t) (ms0_0 t) (hs0_0 t) (ms0_1 t) (hs0_1 t) (ms0_2 t) (hs0_2 t) (ms0_3 t) (hs0_3 t) scM0_0 (Memref.isWhole_whole _)
    (iblk m c 0 t) (iblk m c 1 t) (ix5 0 0 0 r l) = _
  rw [out3_apply _ _ _ _ _ _ _ _ _ _ _ _ _ _ (fin_q m c hn t) (fin_k m c hn t), View.read_apply]
  show _ = biased _ _ ((((cfg0.win 3).blk t).view.emb (ix5 (0 : Fin 1) (0 : Fin 1) (0 : Fin 1) r l) : S2x2x16x1024x128.Idx) 0)
    ((((cfg0.win 3).blk t).view.emb (ix5 (0 : Fin 1) (0 : Fin 1) (0 : Fin 1) r l) : S2x2x16x1024x128.Idx) 1)
    ((((cfg0.win 3).blk t).view.emb (ix5 (0 : Fin 1) (0 : Fin 1) (0 : Fin 1) r l) : S2x2x16x1024x128.Idx) 2)
    ((((cfg0.win 3).blk t).view.emb (ix5 (0 : Fin 1) (0 : Fin 1) (0 : Fin 1) r l) : S2x2x16x1024x128.Idx) 3)
    ((((cfg0.win 3).blk t).view.emb (ix5 (0 : Fin 1) (0 : Fin 1) (0 : Fin 1) r l) : S2x2x16x1024x128.Idx) 4)
  rw [show ((((cfg0.win 3).blk t).view.emb (ix5 (0 : Fin 1) (0 : Fin 1) (0 : Fin 1) r l) : S2x2x16x1024x128.Idx) 0) = batch t from Fin.ext (by
      show win0_3.index t 0 * 1 + 1 * 0 = (batch t).val; rw [hi.1]; omega),
    show ((((cfg0.win 3).blk t).view.emb (ix5 (0 : Fin 1) (0 : Fin 1) (0 : Fin 1) r l) : S2x2x16x1024x128.Idx) 1) = group t from Fin.ext (by
      show win0_3.index t 1 * 1 + 1 * 0 = (group t).val; rw [hi.2.1]; omega),
    show ((((cfg0.win 3).blk t).view.emb (ix5 (0 : Fin 1) (0 : Fin 1) (0 : Fin 1) r l) : S2x2x16x1024x128.Idx) 2) = tile t from Fin.ext (by
      show win0_3.index t 2 * 1 + 1 * 0 = (tile t).val; rw [hi.2.2.1]; omega),
    show ((((cfg0.win 3).blk t).view.emb (ix5 (0 : Fin 1) (0 : Fin 1) (0 : Fin 1) r l) : S2x2x16x1024x128.Idx) 3) = r from Fin.ext (by
      show win0_3.index t 3 * 1024 + 1 * r.val = r.val; rw [hi.2.2.2.1]; omega),
    show ((((cfg0.win 3).blk t).view.emb (ix5 (0 : Fin 1) (0 : Fin 1) (0 : Fin 1) r l) : S2x2x16x1024x128.Idx) 4) = l from Fin.ext (by
      show win0_3.index t 4 * 128 + 1 * l.val = l.val; rw [hi.2.2.2.2]; omega)]
  unfold biased
  have hs : ∀ j : Fin 64, score ((tile t).val * 256 + r.val % 256) (importance (grid0.coords t) (iblk m c 0 t) (iblk m c 1 t) ((tile t).val * 256 + r.val % 256) ⟨r.val % 256, by omega⟩ j) j.val
      = choice (m (c.tc.loc main_arg0)) (m (c.tc.loc main_arg1)) (batch t) (group t) ⟨(tile t).val * 256 + r.val % 256, by omega⟩ j := fun j => by
    unfold choice importance
    refine congrArg (score _ · _) (Finset.sum_congr rfl fun r' _ => ?_)
    congr 1
    · funext d
      rw [blk_q]
      congr 1
      · exact Fin.ext (by show (r'.val * 256 + r.val % 256) / 256 = r'.val; omega)
      · exact Fin.ext (by show (tile t).val * 256 + (r'.val * 256 + r.val % 256) % 256 = (tile t).val * 256 + r.val % 256; omega)
    · exact funext fun j => funext fun d => blk_k m c t j d
  rw [show (fun j : Fin 64 => score ((grid0.coords t 2).val * 256 + r.val % 256) (importance (grid0.coords t) (iblk m c 0 t) (iblk m c 1 t) ((grid0.coords t 2).val * 256 + r.val % 256) ⟨r.val % 256, by omega⟩ j) j.val)
    = choice (m (c.tc.loc main_arg0)) (m (c.tc.loc main_arg1)) (batch t) (group t) ⟨(tile t).val * 256 + r.val % 256, by omega⟩ from funext hs, blk_q]

theorem final2 : (dats m 0 c).arrAt 2 cfg0.N = result2 m c :=
  (dats m 0 c).arrAt_eq_of_cover 2 (result2 m c) (fun t _ => flushed2_eq m c hn t) fun (i : S2x4096x512.Idx) => by
    have h0 : (i 0 : Nat) < 2 := (i 0).isLt
    have h1 : (i 1 : Nat) < 4096 := (i 1).isLt
    have h2 : (i 2 : Nat) < 512 := (i 2).isLt
    obtain ⟨t, ht⟩ : ∃ t : Fin cfg0.N, grid0.coords t = fun | 0 => (⟨(i 0).val, h0⟩ : Fin 2) | 1 => (⟨(i 2).val / 256, by omega⟩ : Fin 2) | 2 => (⟨(i 1).val / 256, by omega⟩ : Fin 16) :=
      Idealize.ShloMosaic.Pipeline.Grid.coords_surjective grid0 _
    refine ⟨t, flush0_2 t, ?_⟩
    have hi := (index_facts t).2.2.1
    unfold batch group tile at hi
    rw [ht] at hi
    show i ∈ ((View.whole main_v1_0).slice (win0_2.rect t)).set
    rw [View.set_slice_whole, Rect.mem_set_unit]
    intro a
    match a with
    | ⟨0, _⟩ =>
      show win0_2.index t 0 * 1 ≤ (i 0 : Nat) ∧ (i 0 : Nat) < win0_2.index t 0 * 1 + 1
      rw [hi.1]; show (i 0).val * 1 ≤ (i 0).val ∧ (i 0).val < (i 0).val * 1 + 1; omega
    | ⟨1, _⟩ =>
      show win0_2.index t 1 * 256 ≤ (i 1 : Nat) ∧ (i 1 : Nat) < win0_2.index t 1 * 256 + 256
      rw [hi.2.1]; show (i 1).val / 256 * 256 ≤ (i 1).val ∧ (i 1).val < (i 1).val / 256 * 256 + 256; omega
    | ⟨2, _⟩ =>
      show win0_2.index t 2 * 256 ≤ (i 2 : Nat) ∧ (i 2 : Nat) < win0_2.index t 2 * 256 + 256
      rw [hi.2.2]; show (i 2).val / 256 * 256 ≤ (i 2).val ∧ (i 2).val < (i 2).val / 256 * 256 + 256; omega

theorem final3 : (dats m 0 c).arrAt 3 cfg0.N = result3 m c :=
  (dats m 0 c).arrAt_eq_of_cover 3 (result3 m c) (fun t _ => flushed3_eq m c hn t) fun (i : S2x2x16x1024x128.Idx) => by
    have h3 : (i 3 : Nat) < 1024 := (i 3).isLt
    have h4 : (i 4 : Nat) < 128 := (i 4).isLt
    obtain ⟨t, ht⟩ : ∃ t : Fin cfg0.N, grid0.coords t = fun | 0 => (i 0 : Fin 2) | 1 => (i 1 : Fin 2) | 2 => (i 2 : Fin 16) :=
      Idealize.ShloMosaic.Pipeline.Grid.coords_surjective grid0 _
    refine ⟨t, flush0_3 t, ?_⟩
    have hi := (index_facts t).2.2.2
    unfold batch group tile at hi
    rw [ht] at hi
    show i ∈ ((View.whole main_v1_1).slice (win0_3.rect t)).set
    rw [View.set_slice_whole, Rect.mem_set_unit]
    intro a
    match a with
    | ⟨0, _⟩ =>
      show win0_3.index t 0 * 1 ≤ (i 0 : Nat) ∧ (i 0 : Nat) < win0_3.index t 0 * 1 + 1
      rw [hi.1]; show (i 0).val * 1 ≤ (i 0).val ∧ (i 0).val < (i 0).val * 1 + 1; omega
    | ⟨1, _⟩ =>
      show win0_3.index t 1 * 1 ≤ (i 1 : Nat) ∧ (i 1 : Nat) < win0_3.index t 1 * 1 + 1
      rw [hi.2.1]; show (i 1).val * 1 ≤ (i 1).val ∧ (i 1).val < (i 1).val * 1 + 1; omega
    | ⟨2, _⟩ =>
      show win0_3.index t 2 * 1 ≤ (i 2 : Nat) ∧ (i 2 : Nat) < win0_3.index t 2 * 1 + 1
      rw [hi.2.2.1]; show (i 2).val * 1 ≤ (i 2).val ∧ (i 2).val < (i 2).val * 1 + 1; omega
    | ⟨3, _⟩ =>
      show win0_3.index t 3 * 1024 ≤ (i 3 : Nat) ∧ (i 3 : Nat) < win0_3.index t 3 * 1024 + 1024
      rw [hi.2.2.2.1]; omega
    | ⟨4, _⟩ =>
      show win0_3.index t 4 * 128 ≤ (i 4 : Nat) ∧ (i 4 : Nat) < win0_3.index t 4 * 128 + 128
      rw [hi.2.2.2.2]; omega

end Cert.KernelIdeal.Value
end
-- ==== Proof.CmpRef.lean ====
module
public import proofs.«01_k».proof.Proof.CmpKernel
public import proofs.«01_k».proof.Proof.Gen.ReferenceIdeal.Run
@[expose] public section
set_option maxRecDepth 16384

/-! The reference's two result arrays, read entry by entry as the same mathematics. -/

noncomputable section
open Idealize.ShloMosaic Idealize.ShloMosaic.TcCoe Idealize.SL.Sem
open scoped BigOperators
namespace Cert.Layer.Cmp

/-- A fold along the last of five axes, at an index. -/
theorem reduce_last {n0 n1 n2 n3 n4 : Nat} {u : Shape} {α : Type} (f : α → α → α) [Std.Commutative f] [Std.Associative f]
    (x : (⟨5, ![n0, n1, n2, n3, n4]⟩ : Shape).Idx → α) (init : u.Idx → α) (h : (⟨5, ![n0, n1, n2, n3, n4]⟩ : Shape).ReducesTo [4] ⟨4, ![n0, n1, n2, n3]⟩)
    (hu : 0 < u.numel) (a : Fin n0) (b : Fin n1) (c : Fin n2) (d : Fin n3) :
    Host.reduce f x init h hu (ix4 a b c d) = Finset.fold f (init (Shape.Idx.first hu)) (fun k => x (ix5 a b c d k)) Finset.univ :=
  (Host.reduce_eq_fold f x init h hu (ix4 a b c d)).trans (h.fold_fiber_r5_a4 _ f _ x)
/-- A fold along the fourth of five axes, at an index. -/
theorem reduce_fourth {n0 n1 n2 n3 n4 : Nat} {u : Shape} {α : Type} (f : α → α → α) [Std.Commutative f] [Std.Associative f]
    (x : (⟨5, ![n0, n1, n2, n3, n4]⟩ : Shape).Idx → α) (init : u.Idx → α) (h : (⟨5, ![n0, n1, n2, n3, n4]⟩ : Shape).ReducesTo [3] ⟨4, ![n0, n1, n2, n4]⟩)
    (hu : 0 < u.numel) (a : Fin n0) (b : Fin n1) (c : Fin n2) (d : Fin n4) :
    Host.reduce f x init h hu (ix4 a b c d) = Finset.fold f (init (Shape.Idx.first hu)) (fun k => x (ix5 a b c k d)) Finset.univ :=
  (Host.reduce_eq_fold f x init h hu (ix4 a b c d)).trans (h.fold_fiber_r5_a3 _ f _ x)

/-- Where the `k` greatest of the last of four axes come from, at an index. -/
theorem topK_index {n0 n1 n2 n k : Nat} (x : FVec Ideal ⟨4, ![n0, n1, n2, n]⟩ .f32)
    (h : (⟨4, ![n0, n1, n2, n]⟩ : Shape).Slices (fun _ => 0) ⟨4, ![n0, n1, n2, k]⟩) (hk : k ≤ n)
    (a : Fin n0) (b : Fin n1) (c : Fin n2) (r : Fin k) :
    (Host.topK ⟨4, ![n0, n1, n2, k]⟩ 3 (FloatOps.cmpfTotal (F := Ideal) (φ := .f32) .gt) x h).2 (ix4 a b c r)
      = BitVec.ofNat 32 (sortedFrom (Rank.greater fun p : Fin n => x (ix4 a b c p)) (r.castLE hk)).val := by
  unfold Host.topK Host.sort2
  dsimp only
  rw [dif_pos (show 3 < 4 by decide)]
  have e (p : Fin n) : (ix4 a b c (r.castLE hk) : (⟨4, ![n0, n1, n2, n]⟩ : Shape).Idx).along 3 p = ix4 a b c p := by
    funext i
    fin_cases i <;> rfl
  have hf : (fun p q : Fin n => FloatOps.cmpfTotal (F := Ideal) (φ := .f32) .gt (x ((ix4 a b c (r.castLE hk) : (⟨4, ![n0, n1, n2, n]⟩ : Shape).Idx).along 3 p))
      (x ((ix4 a b c (r.castLE hk) : (⟨4, ![n0, n1, n2, n]⟩ : Shape).Idx).along 3 q)) == 1#1) = Rank.greater fun p : Fin n => x (ix4 a b c p) := by
    funext p q
    rw [e, e]
    unfold Rank.greater
    rw [Ideal.cmpfTotal_def]
    by_cases hpq : x (ix4 a b c q) < x (ix4 a b c p) <;> simp [Ideal.cmp, CmpDirection.ordered, hpq]
  refine (extractStridedSlice_apply _ _ h (ix4 a b c r) (ix4 a b c (r.castLE hk)) (fun i => by fin_cases i <;> simp)).trans ?_
  exact congrArg (fun f => BitVec.ofNat 32 (sortedFrom f (r.castLE hk)).val) hf

theorem ori_decide (u : BitVec 1) (q : Prop) [Decidable q] : IntOp.ori u (BitVec.ofBool (decide q)) = BitVec.ofBool (decide (u = 1#1 ∨ q)) := by
  by_cases hq : q <;> simp only [hq, decide_true, decide_false, or_true, or_false] <;> revert u <;> decide

/-- A disjunction along an axis is set where one of its entries is. -/
theorem fold_or {ι : Type} [DecidableEq ι] (s : Finset ι) (f : ι → BitVec 1) : Finset.fold IntOp.ori 0#1 f s = BitVec.ofBool (decide (∃ k ∈ s, f k = 1#1)) := by
  induction s using Finset.induction_on with
  | empty => simp
  | insert a s ha ih =>
    rw [Finset.fold_insert ha, ih, ori_decide]
    simp

/-- A block is among the first sixteen of the sort where fewer than sixteen beat it. -/
theorem chosen (f : Fin 64 → EReal) (j : Fin 64) :
    Finset.fold IntOp.ori 0#1 (fun k : Fin 16 => IntOp.cmpi .eq (BitVec.ofNat 32 (sortedFrom (Rank.greater f) (k.castLE (by decide))).val) (BitVec.ofNat 32 j.val)) Finset.univ
      = BitVec.ofBool (decide (Rank.rank f j < 16)) := by
  refine (fold_or Finset.univ _).trans (congrArg BitVec.ofBool (decide_eq_decide.mpr ?_))
  rw [← Rank.mem_first f 16 (by decide)]
  have e (p : Fin 64) : IntOp.cmpi .eq (BitVec.ofNat 32 p.val) (BitVec.ofNat 32 j.val) = 1#1 ↔ p = j := by
    rw [eq_ofNat (by omega) (by omega), Fin.ext_iff]
    by_cases h : p.val = j.val <;> simp [h]
  simp only [e, Finset.mem_univ, true_and]

/-- The block of a token, as the reference computes it. -/
theorem block_ref (t : Fin 4096) :
    Scalar.select (IntOp.andi
        (IntOp.cmpi .ne (if BitVec.ofNat 32 t.val = 0 then 0 else if (BitVec.ofNat 32 t.val).msb then -1 else 1 : BitVec 32) (if (64#32) = 0 then 0 else if (64#32).msb then -1 else 1 : BitVec 32))
        (IntOp.cmpi .ne (IntOp.remsi .host (BitVec.ofNat 32 t.val) 64#32) 0#32))
      (IntOp.subi (IntOp.divsi .host (BitVec.ofNat 32 t.val) 64#32) 1#32)
      (IntOp.divsi .host (BitVec.ofNat 32 t.val) 64#32) = BitVec.ofNat 32 (t.val / 64) := by
  revert t; decide +kernel

/-- Whether the block has ended, as the reference asks it. -/
abbrev ended (t : Nat) (x : Fin 64) : BitVec 1 :=
  IntOp.cmpi .sle (IntOp.subi (IntOp.muli (IntOp.addi (BitVec.ofNat 32 x.val) 1#32) 64#32) 1#32) (BitVec.ofNat 32 t)
/-- The masked product as the reference spells it. -/
abbrev maskedRef (q : Fin 64 → EReal) (k : Fin 64 → Fin 64 → EReal) (t : Nat) (x : Fin 64) : EReal :=
  Scalar.select (ended t x) ((∑ d, k x d * q d) * Ideal.ofBits .f32 0x3E000000#32) (Ideal.ofBits .f32 0xFF800000#32)
section
variable (q : Fin 64 → EReal) (k : Fin 64 → Fin 64 → EReal) (t : Nat) (ht : t < 4096)
include ht

theorem ended_eq (x : Fin 64) : ended t x = BitVec.ofBool (decide (64 * x.val + 63 ≤ t)) := by
  have h1 : t < 2 ^ 31 := by omega
  have h2 : 64 * x.val + 63 < 2 ^ 31 := by omega
  unfold ended
  rw [last_token, sle_ofNat h2 h1]

theorem maskedRef_eq (x : Fin 64) : maskedRef q k t x = masked q k t x := by
  unfold maskedRef masked
  rw [ended_eq t ht, select_ofBool, negInf]
  simp only [decide_eq_true_eq]
  rfl

end

end Cert.Layer.Cmp
namespace Cert.ReferenceIdeal.Value
open Cert.ReferenceIdeal Cert.Layer Cert.Layer.Cmp
variable (m : (ℓ : Loc nD τ sig) → Buf (Elt Ideal) ℓ) (c : Dev nD)

/-- Two arrays beside one another, at an index. -/
theorem beside_at (A B : FVec Ideal S2x4x4096x64 .f32) (b : Fin 2) (r : Fin 4) (t : Fin 4096) (l : Fin 128) :
    (fn_main_v85 (F := Ideal) A B (ix4 b r t l) : EReal) = if h : l.val < 64 then (A (ix4 b r t ⟨l.val, h⟩) : EReal) else B (ix4 b r t ⟨l.val - 64, by omega⟩) := by
  pointwise [fn_main_v85]
/-- Two groups one after the other, at an index. -/
theorem stacked_at (A B : FVec Ideal S2x4x4096x128 .f32) (b g : Fin 2) (r : Fin 4) (t : Fin 4096) (l : Fin 128) :
    (fn_main_v94 (F := Ideal) (broadcastInDim S2x1x4x4096x128 ![0, 2, 3, 4] Gen.bcast_S2x4x4096x128_S2x1x4x4096x128_0_2_3_4 A)
      (broadcastInDim S2x1x4x4096x128 ![0, 2, 3, 4] Gen.bcast_S2x4x4096x128_S2x1x4x4096x128_0_2_3_4 B) (ix5 b g r t l) : EReal)
      = if g.val < 1 then (A (ix4 b r t l) : EReal) else B (ix4 b r t l) := by
  pointwise [fn_main_v94]
  rfl
/-- The first group's own array, at an index. -/
theorem first_at (Q : FVec Ideal S2x2x4x4096x64 .f32) (b : Fin 2) (r : Fin 4) (t : Fin 4096) (d : Fin 64) :
    (shapeCast S2x4x4096x64 (extractStridedSlice S2x1x4x4096x64 ![0, 0, 0, 0, 0] Q Gen.slices_S2x2x4x4096x64_S2x1x4x4096x64_0_0_0_0_0) Gen.shapeCasts_S2x1x4x4096x64_S2x4x4096x64 (ix4 b r t d) : EReal)
      = Q (ix5 b 0 r t d) := by
  pointwise []
/-- The second group's own array, at an index. -/
theorem second_at (Q : FVec Ideal S2x2x4x4096x64 .f32) (b : Fin 2) (r : Fin 4) (t : Fin 4096) (d : Fin 64) :
    (shapeCast S2x4x4096x64 (extractStridedSlice S2x1x4x4096x64 ![0, 1, 0, 0, 0] Q Gen.slices_S2x2x4x4096x64_S2x1x4x4096x64_0_1_0_0_0) Gen.shapeCasts_S2x1x4x4096x64_S2x4x4096x64 (ix4 b r t d) : EReal)
      = Q (ix5 b 1 r t d) := by
  pointwise []
/-- One array for all the heads, at an index. -/
theorem heads_at (B : FVec Ideal S2x2x4096x64 .f32) (b g : Fin 2) (r : Fin 4) (t : Fin 4096) (d : Fin 64) :
    (broadcastInDim S2x2x4x4096x64 ![0, 1, 2, 3, 4] Gen.bcast_S2x2x1x4096x64_S2x2x4x4096x64_0_1_2_3_4
      (broadcastInDim S2x2x1x4096x64 ![0, 1, 3, 4] Gen.bcast_S2x2x4096x64_S2x2x1x4096x64_0_1_3_4 B) (ix5 b g r t d) : EReal) = B (ix4 b g t d) := by
  pointwise []

/-- The query's own lanes beside the bias, the other way round in the second group. -/
theorem laid_at (Q : FVec Ideal S2x2x4x4096x64 .f32) (B : FVec Ideal S2x2x4096x64 .f32) (b g : Fin 2) (r : Fin 4) (t : Fin 4096) (l : Fin 128) :
    (fn_main_v94 (F := Ideal)
      (broadcastInDim S2x1x4x4096x128 ![0, 2, 3, 4] Gen.bcast_S2x4x4096x128_S2x1x4x4096x128_0_2_3_4
        (fn_main_v85 (F := Ideal)
          (shapeCast S2x4x4096x64 (extractStridedSlice S2x1x4x4096x64 ![0, 0, 0, 0, 0] Q Gen.slices_S2x2x4x4096x64_S2x1x4x4096x64_0_0_0_0_0) Gen.shapeCasts_S2x1x4x4096x64_S2x4x4096x64)
          (id (shapeCast S2x4x4096x64 (extractStridedSlice S2x1x4x4096x64 ![0, 0, 0, 0, 0]
            (broadcastInDim S2x2x4x4096x64 ![0, 1, 2, 3, 4] Gen.bcast_S2x2x1x4096x64_S2x2x4x4096x64_0_1_2_3_4
              (broadcastInDim S2x2x1x4096x64 ![0, 1, 3, 4] Gen.bcast_S2x2x4096x64_S2x2x1x4096x64_0_1_3_4 B))
            Gen.slices_S2x2x4x4096x64_S2x1x4x4096x64_0_0_0_0_0) Gen.shapeCasts_S2x1x4x4096x64_S2x4x4096x64))))
      (broadcastInDim S2x1x4x4096x128 ![0, 2, 3, 4] Gen.bcast_S2x4x4096x128_S2x1x4x4096x128_0_2_3_4
        (fn_main_v85 (F := Ideal)
          (id (shapeCast S2x4x4096x64 (extractStridedSlice S2x1x4x4096x64 ![0, 1, 0, 0, 0]
            (broadcastInDim S2x2x4x4096x64 ![0, 1, 2, 3, 4] Gen.bcast_S2x2x1x4096x64_S2x2x4x4096x64_0_1_2_3_4
              (broadcastInDim S2x2x1x4096x64 ![0, 1, 3, 4] Gen.bcast_S2x2x4096x64_S2x2x1x4096x64_0_1_3_4 B))
            Gen.slices_S2x2x4x4096x64_S2x1x4x4096x64_0_1_0_0_0) Gen.shapeCasts_S2x1x4x4096x64_S2x4x4096x64))
          (shapeCast S2x4x4096x64 (extractStridedSlice S2x1x4x4096x64 ![0, 1, 0, 0, 0] Q Gen.slices_S2x2x4x4096x64_S2x1x4x4096x64_0_1_0_0_0) Gen.shapeCasts_S2x1x4x4096x64_S2x4x4096x64)))
      (ix5 b g r t l) : EReal)
      = if l.val / 64 = g.val then (Q (ix5 b g r t ⟨l.val % 64, by omega⟩) : EReal) else B (ix4 b g t ⟨l.val % 64, by omega⟩) := by
  rw [stacked_at, beside_at, beside_at]
  simp only [id, first_at, second_at, heads_at]
  have hg : g = 0 ∨ g = 1 := by omega
  rcases hg with rfl | rfl
  · rw [if_pos (by decide)]
    by_cases h : l.val < 64
    · refine (dif_pos h).trans (Eq.trans ?_ (if_pos (show l.val / 64 = 0 by omega)).symm)
      simp only [Nat.mod_eq_of_lt h]
    · refine (dif_neg h).trans (Eq.trans ?_ (if_neg (show ¬ l.val / 64 = 0 by omega)).symm)
      simp only [show l.val % 64 = l.val - 64 by omega]
      exact heads_at B b 0 r t _
  · rw [if_neg (by decide)]
    by_cases h : l.val < 64
    · refine (dif_pos h).trans (Eq.trans ?_ (if_neg (show ¬ l.val / 64 = 1 by omega)).symm)
      simp only [Nat.mod_eq_of_lt h]
      exact heads_at B b 1 r t _
    · refine (dif_neg h).trans (Eq.trans ?_ (if_pos (show l.val / 64 = 1 by omega)).symm)
      simp only [show l.val % 64 = l.val - 64 by omega]

/-- The second result's mathematics: the query's own lanes scaled, the bias of a block in the others. -/
def bias (x : Acts) (y : Means) (b g : Fin 2) (i : Fin 16) (r : Fin 1024) (l : Fin 128) : EReal :=
  if l.val / 64 = g.val then gq x b g ⟨r.val / 256, by omega⟩ ⟨i.val * 256 + r.val % 256, by omega⟩ ⟨l.val % 64, by omega⟩ * Ideal.ofBits .f32 0x3E38AA3B#32
  else if Rank.rank (choice x y b g ⟨i.val * 256 + r.val % 256, by omega⟩) ⟨l.val % 64, by omega⟩ < 16 then 0 else ⊥

set_option maxHeartbeats 1000000 in
/-- The reference's two results. -/
theorem results : (∀ b t l, (res_main_v38 m c (ix3 b t l) : EReal) = attended (m (c.tc.loc main_arg0)) (m (c.tc.loc main_arg1)) b t l)
    ∧ (∀ b g i r l, (res_main_v98 m c (ix5 b g i r l) : EReal) = bias (m (c.tc.loc main_arg0)) (m (c.tc.loc main_arg1)) b g i r l) := by
  have beside (A B : FVec Ideal S2x4x4096x64 .f32) : concatenate S2x4x4096x128 3 [⟨S2x4x4096x64, A⟩, ⟨S2x4x4096x64, B⟩] Gen.concatenates_S2x4x4096x64_S2x4x4096x64_S2x4x4096x128_d3 = fn_main_v85 (F := Ideal) A B := rfl
  have stacked (A B : FVec Ideal S2x1x4x4096x128 .f32) : concatenate S2x2x4x4096x128 1 [⟨S2x1x4x4096x128, A⟩, ⟨S2x1x4x4096x128, B⟩] Gen.concatenates_S2x1x4x4096x128_S2x1x4x4096x128_S2x2x4x4096x128_d1 = fn_main_v94 (F := Ideal) A B := rfl
  unfold res_main_v38 res_main_v98
  rw [stacked]
  simp only [beside]
  generalize hs : select (α := Ideal .f32) (s := S2x2x4x4096x64) _ (mulf _ _) _ = S
  have hS (b g : Fin 2) (r : Fin 4) (t : Fin 4096) (j : Fin 64) : (S (ix5 b g r t j) : EReal) = masked (gq (m (c.tc.loc main_arg0)) b g r t) (gk (m (c.tc.loc main_arg1)) b g) t.val j := by
    rw [← maskedRef_eq _ _ _ t.isLt, ← hs]
    clear hs
    unfold maskedRef ended gq gk
    pointwise [id]
  clear hs
  generalize hr : Host.reduce FloatOps.maximumf S _ _ _ = M
  have hM (b g : Fin 2) (r : Fin 4) (t : Fin 4096) : (M (ix4 b g r t) : EReal) = top (gq (m (c.tc.loc main_arg0)) b g r t) (gk (m (c.tc.loc main_arg1)) b g) t.val := by
    rw [← hr]
    refine (reduce_last (max : EReal → EReal → EReal) S _ _ _ b g r t).trans ?_
    simp only [hS]
    exact congrArg (fun z => Finset.fold max z _ Finset.univ) negInf
  clear hr
  generalize hw : maximumf (F := Ideal) (φ := .f32) (s := S2x2x4x4096) _ M = W
  have hW (b g : Fin 2) (r : Fin 4) (t : Fin 4096) : (W (ix4 b g r t) : EReal) = top (gq (m (c.tc.loc main_arg0)) b g r t) (gk (m (c.tc.loc main_arg1)) b g) t.val := by
    rw [← hM, ← hw]
    generalize hk : broadcastInDim (α := Ideal .f32) S2x2x4x4096 _ _ (constant S_ FTy.f32 4286578688#32) = K
    have hK : (K (ix4 b g r t) : EReal) = ⊥ := by
      rw [← negInf, ← hk]
      pointwise []
    refine (ValueIdx.maximumf_apply K M (ix4 b g r t)).trans ?_
    rw [hK]
    exact max_eq_right bot_le
  clear hw hM
  generalize he : Host.exp (subf S _) = E
  have hE (b g : Fin 2) (r : Fin 4) (t : Fin 4096) (j : Fin 64) : (E (ix5 b g r t j) : EReal) = weight (gq (m (c.tc.loc main_arg0)) b g r t) (gk (m (c.tc.loc main_arg1)) b g) t.val j := by
    refine Eq.trans (b := Ideal.exp ((S (ix5 b g r t j) : EReal) - W (ix4 b g r t))) ?_ ?_
    · rw [← he]
      clear he hS hW
      pointwise []
    · rw [hS, hW]
      rfl
  clear he
  generalize hp : select (α := Ideal .f32) (s := S2x2x4x4096x64) _ (Host.divf _ _) _ = P
  have hP (b g : Fin 2) (r : Fin 4) (t : Fin 4096) (j : Fin 64) : (P (ix5 b g r t j) : EReal) = prob (gq (m (c.tc.loc main_arg0)) b g r t) (gk (m (c.tc.loc main_arg1)) b g) t.val j := by
    refine Eq.trans (b := Scalar.select (ended t.val j) (Ideal.div (E (ix5 b g r t j)) (∑ x : Fin 64, (E (ix5 b g r t x) : EReal))) 0) ?_ ?_
    · rw [← hp]
      clear hp hE hS hW
      pointwise [id]
    · simp only [hE, ended_eq _ t.isLt, select_ofBool, decide_eq_true_eq]
      rfl
  clear hp hE hS hW
  refine ⟨fun b t l => ?_, fun b g i r l => ?_⟩
  · refine Eq.trans (b := ∑ x : Fin 64, gv (m (c.tc.loc main_arg1)) b ⟨l.val / 256, by omega⟩ x ⟨l.val % 64, by omega⟩
      * (P (ix5 b ⟨l.val / 256, by omega⟩ ⟨l.val / 64 % 4, by omega⟩ t x) : EReal)) ?_ ?_
    · clear hP
      pointwise []
      rfl
    · simp only [hP]
      rfl
  · generalize hc : select (α := Ideal .f32) (s := S2x2x4096x64) _ _ (select (α := Ideal .f32) (s := S2x2x4096x64) _ _ _) = C
    have hC (b g : Fin 2) (t : Fin 4096) (j : Fin 64) : (C (ix4 b g t j) : EReal) = choice (m (c.tc.loc main_arg0)) (m (c.tc.loc main_arg1)) b g t j := by
      rw [← hc]
      clear hc
      generalize hz : select (α := BitVec 32) (s := S4096) _ _ _ = Z
      have hZ (t : Fin 4096) : Z (ix1 t) = BitVec.ofNat 32 (t.val / 64) := by
        rw [← hz, ← block_ref]
        clear hz hP
        pointwise [id]
      clear hz
      refine Eq.trans (b := Scalar.select (IntOp.ori (IntOp.ori (IntOp.cmpi .eq (BitVec.ofNat 32 j.val) 0#32) (IntOp.cmpi .eq (BitVec.ofNat 32 j.val) (Z (ix1 t))))
        (IntOp.cmpi .eq (BitVec.ofNat 32 j.val) (IntOp.subi (Z (ix1 t)) 1#32))) five
        (Scalar.select (IntOp.cmpi .sle (IntOp.muli (BitVec.ofNat 32 j.val) 64#32) (BitVec.ofNat 32 t.val)) (∑ x : Fin 4, (P (ix5 b g x t j) : EReal)) minusOne)) ?_ ?_
      · clear hZ hP
        unfold five minusOne
        pointwise [id]
      · have h1 : t.val < 2 ^ 31 := by omega
        rw [hZ, eq_ofNat (b := t.val / 64) (by omega) (by omega), previous j ⟨t.val / 64, by omega⟩,
          show IntOp.cmpi .eq (BitVec.ofNat 32 j.val) 0#32 = _ from eq_ofNat (b := 0) (by omega) (by omega),
          show IntOp.muli (BitVec.ofNat 32 j.val) 64#32 = _ from muli_ofNat j.val 64, sle_ofNat (by omega) h1,
          ori_ofBool, ori_ofBool, select_ofBool, select_ofBool]
        simp only [hP]
        unfold choice score
        simp only [Bool.or_eq_true, decide_eq_true_eq, or_assoc, mul_comm j.val 64]
    clear hc hP
    generalize hi : (Host.topK (α := Ideal .f32) (s := S2x2x4096x64) _ _ _ C _).2 = I
    have hI (b g : Fin 2) (t : Fin 4096) (r : Fin 16) : I (ix4 b g t r)
        = BitVec.ofNat 32 (sortedFrom (Rank.greater (choice (m (c.tc.loc main_arg0)) (m (c.tc.loc main_arg1)) b g t)) (r.castLE (by decide))).val := by
      rw [← hi]
      refine (topK_index C _ (by decide) b g t r).trans ?_
      exact congrArg (fun f => BitVec.ofNat 32 (sortedFrom (Rank.greater f) (r.castLE (by decide))).val) (funext fun p => hC b g t p)
    clear hi hC
    generalize ho : Host.reduce IntOp.ori _ _ _ _ = O
    have hO (b g : Fin 2) (t : Fin 4096) (j : Fin 64) : O (ix4 b g t j)
        = BitVec.ofBool (decide (Rank.rank (choice (m (c.tc.loc main_arg0)) (m (c.tc.loc main_arg1)) b g t) j < 16)) := by
      rw [← ho]
      refine (reduce_fourth IntOp.ori _ _ _ _ b g t j).trans ?_
      have hk (k : Fin 16) : (cmpi CmpIPredicate.eq
          (broadcastInDim S2x2x4096x16x64 ![0, 1, 2, 3, 4] Gen.bcast_S2x2x4096x16x1_S2x2x4096x16x64_0_1_2_3_4
            (broadcastInDim S2x2x4096x16x1 ![0, 1, 2, 3] Gen.bcast_S2x2x4096x16_S2x2x4096x16x1_0_1_2_3 I))
          (broadcastInDim S2x2x4096x16x64 ![0, 1, 2, 3, 4] Gen.bcast_S1x1x1x1x64_S2x2x4096x16x64_0_1_2_3_4
            (broadcastInDim S1x1x1x1x64 ![4] Gen.bcast_S64_S1x1x1x1x64_4 (iotaInDim S64 32 0)))) (ix5 b g t k j)
          = IntOp.cmpi .eq (I (ix4 b g t k)) (BitVec.ofNat 32 j.val) := by
        clear hI ho
        pointwise []
      simp only [hk, hI]
      exact chosen _ j
    clear ho hI
    generalize hq : mulf (F := Ideal) (φ := .f32) (s := S2x2x4x4096x64) _ _ = Q
    have hQ (b g : Fin 2) (r : Fin 4) (t : Fin 4096) (d : Fin 64) : (Q (ix5 b g r t d) : EReal) = gq (m (c.tc.loc main_arg0)) b g r t d * Ideal.ofBits .f32 0x3E38AA3B#32 := by
      rw [← hq]
      clear hq hO
      unfold gq
      pointwise []
    clear hq
    generalize hb : select (α := Ideal .f32) (s := S2x2x4096x64) O _ _ = B
    have hB (b g : Fin 2) (t : Fin 4096) (j : Fin 64) : (B (ix4 b g t j) : EReal)
        = if Rank.rank (choice (m (c.tc.loc main_arg0)) (m (c.tc.loc main_arg1)) b g t) j < 16 then 0 else ⊥ := by
      refine Eq.trans (b := Scalar.select (O (ix4 b g t j)) (Ideal.ofBits .f32 0#32) (Ideal.ofBits .f32 0xFF800000#32)) ?_ ?_
      · rw [← hb]
        clear hb hO hQ
        pointwise []
      · rw [hO, select_ofBool, negInf, zeroBits]
        simp only [decide_eq_true_eq]
    clear hb hO
    generalize hx : fn_main_v94 _ _ = X'
    obtain ⟨X, rfl⟩ : ∃ X : FVec Ideal S2x2x4x4096x128 .f32, X = X' := ⟨X', rfl⟩
    have hX (b g : Fin 2) (r : Fin 4) (t : Fin 4096) (l : Fin 128) : (X (ix5 b g r t l) : EReal)
        = if l.val / 64 = g.val then (Q (ix5 b g r t ⟨l.val % 64, by omega⟩) : EReal) else B (ix4 b g t ⟨l.val % 64, by omega⟩) := by
      rw [← hx]
      exact laid_at Q B b g r t l
    clear hx
    refine Eq.trans (b := (X (ix5 b g ⟨r.val / 256, by omega⟩ ⟨i.val * 256 + r.val % 256, by omega⟩ l) : EReal)) ?_ ?_
    · clear hX hQ hB
      pointwise []
    · rw [hX, hQ, hB]
      rfl
end Cert.ReferenceIdeal.Value
end
-- ==== Proof.Cmp.lean ====
module

public import proofs.«01_k».proof.Defs
public import proofs.«01_k».proof.Proof.CmpRef
public import Idealize.ShloMosaic.Lib.ReduceAll
@[expose] public section
set_option maxRecDepth 16384

/-! The value claim of the compressed attention and the selection: what the precondition and the compared entries say, and
the two programs' results side by side. -/

noncomputable section
open Idealize.ShloMosaic Idealize.ShloMosaic.TcCoe Idealize.SL.Sem
open scoped BigOperators
namespace Cert.Layer.Cmp

theorem facts_finite : Cert.Pre_finite.Facts := by constructor <;> decide
theorem facts_reachable : Cert.On_reachable.Facts := by constructor <;> decide

instance : Subsingleton Cert.Pre_finite.S_.Idx := ⟨fun a b => funext fun i => i.elim0⟩

theorem fin_of_abs (x : EReal) (h : Ideal.cmp .olt (max x (-x)) (Ideal.ofBits .f32 0x7F800000#32) = 1#1) : Fin' x := by
  have ht : Ideal.ofBits .f32 0x7F800000#32 = ⊤ := by simp [Ideal.ofBits, Ideal.ieee]
  rw [ht] at h
  have hlt : max x (-x) < ⊤ := by
    by_contra hn
    simp [Ideal.cmp, hn] at h
  constructor
  · rintro rfl; simp at hlt
  · rintro rfl; simp at hlt

section
variable (x : Acts) (y : Means)

theorem fin_q (h : (@Cert.Pre_finite.fn facts_finite Ideal _ x y).1 = fun _ => 1#1) (b g : Fin 2) (r : Fin 4) (t : Fin 4096) (d : Fin 64) :
    Fin' (gq x b g r t d) := by
  have e := congrFun h (Shape.Idx.first facts_finite.h_S_)
  dsimp only [Cert.Pre_finite.fn] at e
  have e' := Host.reduce_andi_all _ _ _ _ _ e (ix3 b t ⟨g.val * 256 + r.val * 64 + d.val, by omega⟩)
  refine fin_of_abs _ (Eq.trans ?_ e')
  unfold gq
  clear e e' h
  pointwise []
  rfl

theorem fin_k (h : (@Cert.Pre_finite.fn facts_finite Ideal _ x y).2 = fun _ => 1#1) (b g : Fin 2) (j d : Fin 64) :
    Fin' (gk y b g j d) := by
  have e := congrFun h (Shape.Idx.first facts_finite.h_S_)
  dsimp only [Cert.Pre_finite.fn] at e
  have e' := Host.reduce_andi_all _ _ _ _ _ e (ix3 b j ⟨g.val * 64 + d.val, by omega⟩)
  refine fin_of_abs _ (Eq.trans ?_ e')
  unfold gk
  clear e e' h
  pointwise []
  rfl

theorem remainder_at (l : Fin 128) : @Cert.On_reachable.fn_remainder facts_reachable Ideal _ (iotaInDim Cert.On_reachable.S128 32 0)
    (constantI Cert.On_reachable.S_ 32 64#32) (ix1 l) = BitVec.ofNat 32 (l.val % 64) := by
  pointwise [Cert.On_reachable.fn_remainder, Cert.On_reachable.fn_where, id]
  revert l
  decide +kernel

theorem own_at (l : Fin 128) (g : Fin 2) : IntOp.cmpi .eq (IntOp.cmpi .slt (BitVec.ofNat 32 l.val) 64#32) (IntOp.cmpi .eq (BitVec.ofNat 32 g.val) 0#32)
    = BitVec.ofBool (decide (l.val / 64 = g.val)) := by
  revert l g; decide +kernel

/-- The entries compared: a query's own lanes, and the lanes of the blocks that have begun. -/
theorem compared (b g : Fin 2) (i : Fin 16) (r : Fin 1024) (l : Fin 128) (h : (@Cert.On_reachable.fn facts_reachable Ideal _ x y).2 (ix5 b g i r l) = 1#1) :
    l.val / 64 = g.val ∨ 64 * (l.val % 64) ≤ i.val * 256 + r.val % 256 := by
  revert h
  dsimp only [Cert.On_reachable.fn, Cert.On_reachable.fn_part1]
  generalize hR : @Cert.On_reachable.fn_remainder facts_reachable Ideal _ _ _ = R
  have hR' (l : Fin 128) : R (ix1 l) = BitVec.ofNat 32 (l.val % 64) := by rw [← hR]; exact remainder_at l
  clear hR
  intro h
  have e : IntOp.ori (IntOp.cmpi .eq (IntOp.cmpi .slt (BitVec.ofNat 32 l.val) 64#32) (IntOp.cmpi .eq (BitVec.ofNat 32 g.val) 0#32))
      (IntOp.cmpi .sle (IntOp.muli (R (ix1 l)) 64#32) (BitVec.ofNat 32 (i.val * 256 + r.val % 256))) = 1#1 := by
    refine Eq.trans ?_ h
    clear h hR'
    pointwise []
  have h1 : 64 * (l.val % 64) < 2 ^ 31 := by omega
  have h2 : i.val * 256 + r.val % 256 < 2 ^ 31 := by omega
  rw [hR', own_at l g, show IntOp.muli (BitVec.ofNat 32 (l.val % 64)) 64#32 = _ from muli_ofNat (l.val % 64) 64, sle_ofNat (by omega) h2, ori_ofBool] at e
  by_contra hn
  rw [decide_eq_false (fun he => hn (Or.inl he)), decide_eq_false (fun he => hn (Or.inr (by omega)))] at e
  exact absurd e (by decide)

theorem agree (hn : (∀ b g r t d, Fin' (gq x b g r t d)) ∧ ∀ b g j d, Fin' (gk y b g j d)) (b g : Fin 2) (i : Fin 16) (r : Fin 1024) (l : Fin 128)
    (h : l.val / 64 = g.val ∨ 64 * (l.val % 64) ≤ i.val * 256 + r.val % 256) :
    biased x y b g i r l = Cert.ReferenceIdeal.Value.bias x y b g i r l := by
  unfold biased Cert.ReferenceIdeal.Value.bias
  by_cases hl : l.val / 64 = g.val
  · rw [if_pos hl, if_pos hl]
  · rw [if_neg hl, if_neg hl]
    have hj := h.resolve_left hl
    have e : (Finset.univ.filter fun p : Fin 64 => p.val < 4 * i.val + 4
        ∧ Rank.Beats (choice x y b g ⟨i.val * 256 + r.val % 256, by omega⟩) p ⟨l.val % 64, by omega⟩).card
        = Rank.rank (choice x y b g ⟨i.val * 256 + r.val % 256, by omega⟩) ⟨l.val % 64, by omega⟩ :=
      rank_eq (t := i.val * 256 + r.val % 256) (fun j => ∑ q : Fin 4, prob (gq x b g q ⟨i.val * 256 + r.val % 256, by omega⟩) (gk y b g) (i.val * 256 + r.val % 256) j)
        (fun j => Finset.sum_nonneg fun q _ => prob_nonneg (hn.1 b g q _) (hn.2 b g) j) ⟨l.val % 64, by omega⟩ hj (4 * i.val + 4) (by omega)
    rw [e]

end

theorem numbers (m : (ℓ : Loc Cert.KernelIdeal.nD Cert.KernelIdeal.τ Cert.KernelIdeal.sig) → Buf (Elt Ideal) ℓ)
    (h : Cert.Pre_KernelIdeal_finite (hPre_finite := facts_finite) m) (c : Dev Cert.KernelIdeal.nD) : Cert.KernelIdeal.Value.Numbers m c :=
  ⟨fin_q _ _ (h c).1, fin_k _ _ (h c).2⟩

theorem frame_reference : Cert.quiescent_ReferenceIdeal (hReferenceIdeal := Cert.ReferenceIdeal.Gen.facts) := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The kernel's two result arrays hold the reference's at every compared entry. -/
theorem algebraic : Cert.algebraic_KernelIdeal_ReferenceIdeal_on_reachable_pre_finite (hKernelIdeal := Cert.KernelIdeal.Gen.facts)
    (hReferenceIdeal := Cert.ReferenceIdeal.Gen.facts) (hPre_finite := facts_finite) (hOn_reachable := facts_reachable) := by
  intro m ρ m' ρ' hpre hagree
  refine ⟨fun c => Cert.KernelIdeal.Value.result2 m c, fun c => Cert.KernelIdeal.Value.result3 m c,
    (θ_run Cert.KernelIdeal.defs _ _).mono (fun r h c => ⟨fun i _ => congrFun ((h c).1.trans (Cert.KernelIdeal.Value.final2 m c (numbers m hpre c))) i,
        fun i _ => congrFun ((h c).2.1.trans (Cert.KernelIdeal.Value.final3 m c (numbers m hpre c))) i, (h c).2.2⟩)
      (Cert.KernelIdeal.Value.run_blocks (F := Ideal) m ρ),
    (θ_run Cert.ReferenceIdeal.defs _ _).mono (fun r h c => ⟨fun i _ => (congrFun (h c).1 i).trans ?_, fun i hi => (congrFun (h c).2.1 i).trans ?_, (h c).2.2⟩)
      (Cert.ReferenceIdeal.Value.run (F := Ideal) m' ρ')⟩
  · obtain ⟨h0, h1⟩ := hagree c
    obtain ⟨b, t, l, rfl⟩ : ∃ (b : Fin 2) (t : Fin 4096) (l : Fin 512), i = ix3 b t l := ⟨i 0, i 1, i 2, eq_ix3 i⟩
    refine ((Cert.ReferenceIdeal.Value.results m' c).1 b t l).trans ?_
    rw [h0, h1]
    rfl
  · obtain ⟨h0, h1⟩ := hagree c
    obtain ⟨b, g, z, r, l, rfl⟩ : ∃ (b g : Fin 2) (z : Fin 16) (r : Fin 1024) (l : Fin 128), i = ix5 b g z r l := ⟨i 0, i 1, i 2, i 3, i 4, eq_ix5 i⟩
    refine ((Cert.ReferenceIdeal.Value.results m' c).2 b g z r l).trans ?_
    rw [h0, h1]
    have hn := numbers m hpre c
    exact (agree _ _ ⟨hn.q, hn.k⟩ b g z r l (compared _ _ b g z r l hi)).symm

end Cert.Layer.Cmp
end
-- ==== Proof.Norm.lean ====
/-
  What the two dense calls compute, written over the extended reals: the layer norm of a row of 2048 numbers, and a
  sum over 8192 numbers taken in stretches of 1024. Both sides of each claim are read into these.
-/
module

public import Idealize.ShloMosaic.Lib.Pointwise

@[expose] public section

noncomputable section

open Idealize.ShloMosaic

namespace Cert.Layer

/-- The factor of the residual, as the printed word. -/
def alpha : EReal := Ideal.ofBits .f32 0x3FB504F3#32

/-- The mean of a row of 2048 numbers. -/
def mean (z : Fin 2048 → EReal) : EReal := Ideal.div (∑ l, z l) (Ideal.ofBits .f32 0x45000000#32)

/-- A row normalised to mean 0 and variance 1, then scaled by `g` and shifted by `b`, at place `l`. -/
def layerNorm (z : Fin 2048 → EReal) (g b : EReal) (l : Fin 2048) : EReal :=
  (z l - mean z) * Ideal.rsqrt (mean (fun j => (z j - mean z) * (z j - mean z)) + Ideal.ofBits .f32 0x3727C5AC#32) * g + b

/-- The first `n` of 8192 numbers added up. -/
def upTo (f : Fin 8192 → EReal) (n : ℕ) : EReal := ∑ k ∈ Finset.range n, if h : k < 8192 then f ⟨k, h⟩ else 0

theorem upTo_zero (f : Fin 8192 → EReal) : upTo f 0 = 0 := rfl

/-- All of them. -/
theorem upTo_all (f : Fin 8192 → EReal) : upTo f 8192 = ∑ k, f k := by
  unfold upTo
  rw [Finset.sum_range]
  exact Finset.sum_congr rfl fun k _ => dif_pos k.isLt

/-- One more stretch of 1024. -/
theorem upTo_stretch (f : Fin 8192 → EReal) (q : ℕ) (hq : q < 8) :
    upTo f (1024 * (q + 1)) = upTo f (1024 * q) + ∑ j : Fin 1024, f ⟨1024 * q + j.val, by have := j.isLt; omega⟩ := by
  unfold upTo
  rw [show 1024 * (q + 1) = 1024 * q + 1024 from by omega, Finset.sum_range_add, Finset.sum_range (n := 1024)]
  refine congrArg (_ + ·) (Finset.sum_congr rfl fun j _ => ?_)
  exact dif_pos (by have := j.isLt; omega)

end Cert.Layer

end
-- ==== Proof.Ffn.lean ====
/-
  The feed-forward call: a row of the result is the layer norm of `α·x + (relu(x·W₁))²·W₂`, with the 8192 hidden units
  taken 1024 at a time at eight successive grid points and their products added up in a scratch array.
-/
module

public import proofs.«01_k».proof.Defs
public import proofs.«01_k».proof.Proof.Norm
public import proofs.«01_k».proof.Proof.Gen.Kernel2Ideal.Value
public import proofs.«01_k».proof.Proof.Gen.Reference2Ideal.Run
public import Idealize.ShloMosaic.Lib.Pointwise

@[expose] public section

set_option maxRecDepth 16384

noncomputable section

open Idealize.ShloMosaic Idealize.ShloMosaic.TcCoe Idealize.SL.Sem

namespace Cert.Layer.Ffn

/-- What hidden unit `j` adds to a row's output at `l`. -/
def unit (x : Fin 2048 → EReal) (wu : Fin 2048 → Fin 8192 → EReal) (wd : Fin 8192 → Fin 2048 → EReal) (l : Fin 2048) (j : Fin 8192) : EReal :=
  max (∑ k, x k * wu k j) 0 * max (∑ k, x k * wu k j) 0 * wd j l

/-- A row of the result. -/
def row (x : Fin 2048 → EReal) (wu : Fin 2048 → Fin 8192 → EReal) (wd : Fin 8192 → Fin 2048 → EReal) (g b : Fin 2048 → EReal) (l : Fin 2048) : EReal :=
  layerNorm (fun l => alpha * x l + ∑ j, unit x wu wd l j) (g l) (b l) l

end Cert.Layer.Ffn

namespace Cert.Reference2Ideal.Value

open Cert.Reference2Ideal Cert.Reference2Ideal.Gen Cert.Layer

variable (m : (ℓ : Loc nD τ sig) → Buf (Elt Ideal) ℓ) (c : Dev nD)

/-- The reference at row `r`, place `l`. -/
theorem res_apply (r : Fin 8192) (l : Fin 2048) :
    res_main_v34 (F := Ideal) m c (ix2 r l)
      = Ffn.row (fun k => m (c.tc.loc main_arg0) (ix2 r k)) (fun k j => m (c.tc.loc main_arg1) (ix3 1 k j))
          (fun j l => m (c.tc.loc main_arg2) (ix3 1 j l)) (fun l => m (c.tc.loc main_arg3) (ix1 l)) (fun l => m (c.tc.loc main_arg4) (ix1 l)) l := by
  unfold Ffn.row Ffn.unit layerNorm mean alpha
  pointwise [res_main_v34]

end Cert.Reference2Ideal.Value

namespace Cert.Kernel2Ideal.Value

open Cert.Kernel2Ideal Cert.Kernel2Ideal.Gen Cert.Layer Idealize.ShloMosaic.StableHlo

variable (m : (ℓ : Loc nD τ sig) → Buf (Elt Ideal) ℓ) (c : Dev nD)

/-! ## The body's terms at an index -/

theorem keep_apply (x : FVec Ideal S512x2048 .f32) (r : Fin 512) (l : Fin 2048) : k0_pay1 (F := Ideal) x (ix2 r l) = x (ix2 r l) := by
  pointwise [k0_pay1]

theorem zeros_apply (r : Fin 512) (l : Fin 2048) : k0_pay2 (F := Ideal) (ix2 r l) = (0 : EReal) := by
  pointwise [k0_pay2]

theorem step_apply (x : FVec Ideal S512x2048 .bf16) (wu : FVec Ideal S1x2048x1024 .bf16) (a : FVec Ideal S512x2048 .f32)
    (wd : FVec Ideal S1x1024x2048 .bf16) (r : Fin 512) (l : Fin 2048) :
    k0_pay3 (F := Ideal) x wu a wd (ix2 r l)
      = a (ix2 r l) + ∑ j : Fin 1024, max (∑ k, x (ix2 r k) * wu (ix3 0 k j)) 0 * max (∑ k, x (ix2 r k) * wu (ix3 0 k j)) 0 * wd (ix3 0 j l) := by
  pointwise [k0_pay3]

theorem last_apply (x a : FVec Ideal S512x2048 .f32) (g b : FVec Ideal S1x2048 .f32) (r : Fin 512) (l : Fin 2048) :
    k0_pay4 (F := Ideal) x a g b (ix2 r l)
      = layerNorm (fun l => alpha * x (ix2 r l) + a (ix2 r l)) (g (ix2 0 l)) (b (ix2 0 l)) l := by
  unfold layerNorm mean alpha
  pointwise [k0_pay4]

/-! ## The arguments as the call finds them -/

abbrev X (r : Fin 8192) (k : Fin 2048) : EReal := m (c.tc.loc main_arg0) (ix2 r k)
abbrev WU (k : Fin 2048) (j : Fin 8192) : EReal := m (c.tc.loc main_arg1) (ix3 1 k j)
abbrev WD (j : Fin 8192) (l : Fin 2048) : EReal := m (c.tc.loc main_arg2) (ix3 1 j l)
abbrev G (l : Fin 2048) : EReal := m (c.tc.loc main_arg3) (ix1 l)
abbrev B (l : Fin 2048) : EReal := m (c.tc.loc main_arg4) (ix1 l)

theorem V_v0 : V m c main_v0 = (m (c.tc.loc main_arg1) : S2x2048x8192.Idx → EReal) := by
  unfold V hostOps0
  after_results
  rfl

theorem V_v1 : V m c main_v1 = (m (c.tc.loc main_arg2) : S2x8192x2048.Idx → EReal) := by
  unfold V hostOps0
  after_results
  rfl

theorem V_v2 (l : Fin 2048) : (V m c main_v2 : S1x2048.Idx → EReal) (ix2 0 l) = G m c l := by
  unfold V hostOps0
  after_results
  pointwise

theorem V_v3 (l : Fin 2048) : (V m c main_v3 : S1x2048.Idx → EReal) (ix2 0 l) = B m c l := by
  unfold V hostOps0
  after_results
  pointwise

/-! ## The blocks the body reads at point `t`: rows `512·(t / 8) …`, hidden units `1024·(t % 8) …` -/

theorem index_facts : ∀ t : Fin cfg0.N,
    (win0_0.index t 0 = t.val / 8 ∧ win0_0.index t 1 = 0)
    ∧ (win0_1.index t 0 = 1 ∧ win0_1.index t 1 = 0 ∧ win0_1.index t 2 = t.val % 8)
    ∧ (win0_2.index t 0 = 1 ∧ win0_2.index t 1 = t.val % 8 ∧ win0_2.index t 2 = 0)
    ∧ (win0_3.index t 0 = 0 ∧ win0_3.index t 1 = 0) ∧ (win0_4.index t 0 = 0 ∧ win0_4.index t 1 = 0) :=
  (by decide +kernel : ∀ t : Fin grid0.N, _)

theorem lt_N (t : Fin cfg0.N) : t.val < 128 := lt_of_lt_of_eq t.isLt N_0

abbrev rowOf (t : Fin cfg0.N) (r : Fin 512) : Fin 8192 := ⟨512 * (t.val / 8) + r.val, by have := lt_N t; have := r.isLt; omega⟩
abbrev unitOf (t : Fin cfg0.N) (j : Fin 1024) : Fin 8192 := ⟨1024 * (t.val % 8) + j.val, by have := j.isLt; omega⟩

theorem blk_x (t : Fin cfg0.N) (r : Fin 512) (k : Fin 2048) :
    (iblk m c 0 t : FVec Ideal S512x2048 .f32) (ix2 r k) = X m c (rowOf t r) k := by
  have hi := (index_facts t).1
  unfold iblk
  rw [View.read_apply]
  show V m c main_arg0 _ = _
  rw [V_main_arg0]
  congr 1
  funext a
  apply Fin.ext
  match a with
  | ⟨0, _⟩ => show win0_0.index t 0 * 512 + 1 * r.val = 512 * (t.val / 8) + r.val; rw [hi.1]; omega
  | ⟨1, _⟩ => show win0_0.index t 1 * 2048 + 1 * k.val = k.val; rw [hi.2]; omega

theorem blk_wu (t : Fin cfg0.N) (k : Fin 2048) (j : Fin 1024) :
    (iblk m c 1 t : FVec Ideal S1x2048x1024 .bf16) (ix3 0 k j) = WU m c k (unitOf t j) := by
  have hi := (index_facts t).2.1
  unfold iblk
  rw [View.read_apply]
  show V m c main_v0 _ = _
  rw [V_v0]
  congr 1
  funext a
  apply Fin.ext
  match a with
  | ⟨0, _⟩ => show win0_1.index t 0 * 1 + 1 * 0 = 1; rw [hi.1]
  | ⟨1, _⟩ => show win0_1.index t 1 * 2048 + 1 * k.val = k.val; rw [hi.2.1]; omega
  | ⟨2, _⟩ => show win0_1.index t 2 * 1024 + 1 * j.val = 1024 * (t.val % 8) + j.val; rw [hi.2.2]; omega

theorem blk_wd (t : Fin cfg0.N) (j : Fin 1024) (l : Fin 2048) :
    (iblk m c 2 t : FVec Ideal S1x1024x2048 .bf16) (ix3 0 j l) = WD m c (unitOf t j) l := by
  have hi := (index_facts t).2.2.1
  unfold iblk
  rw [View.read_apply]
  show V m c main_v1 _ = _
  rw [V_v1]
  congr 1
  funext a
  apply Fin.ext
  match a with
  | ⟨0, _⟩ => show win0_2.index t 0 * 1 + 1 * 0 = 1; rw [hi.1]
  | ⟨1, _⟩ => show win0_2.index t 1 * 1024 + 1 * j.val = 1024 * (t.val % 8) + j.val; rw [hi.2.1]; omega
  | ⟨2, _⟩ => show win0_2.index t 2 * 2048 + 1 * l.val = l.val; rw [hi.2.2]; omega

theorem blk_g (t : Fin cfg0.N) (l : Fin 2048) : (iblk m c 3 t : FVec Ideal S1x2048 .f32) (ix2 0 l) = G m c l := by
  have hi := (index_facts t).2.2.2.1
  unfold iblk
  rw [View.read_apply, ← V_v2]
  show V m c main_v2 _ = _
  congr 1
  funext a
  apply Fin.ext
  match a with
  | ⟨0, _⟩ => show win0_3.index t 0 * 1 + 1 * 0 = 0; rw [hi.1]
  | ⟨1, _⟩ => show win0_3.index t 1 * 2048 + 1 * l.val = l.val; rw [hi.2]; omega

theorem blk_b (t : Fin cfg0.N) (l : Fin 2048) : (iblk m c 4 t : FVec Ideal S1x2048 .f32) (ix2 0 l) = B m c l := by
  have hi := (index_facts t).2.2.2.2
  unfold iblk
  rw [View.read_apply, ← V_v3]
  show V m c main_v3 _ = _
  congr 1
  funext a
  apply Fin.ext
  match a with
  | ⟨0, _⟩ => show win0_4.index t 0 * 1 + 1 * 0 = 0; rw [hi.1]
  | ⟨1, _⟩ => show win0_4.index t 1 * 2048 + 1 * l.val = l.val; rw [hi.2]; omega

/-! ## What each case of the body leaves -/

theorem hz : (![0, 0] : Fin 2 → Nat) = fun _ => 0 := funext fun a => by fin_cases a <;> rfl
theorem hz3 : (![0, 0, 0] : Fin 3 → Nat) = fun _ => 0 := funext fun a => by fin_cases a <;> rfl

section cases

variable (i : grid0.Coords) (a2 : Memref sig .tc .vmem S512x2048 .f32) (h2 : a2.IsWhole) (a3 : Memref sig .tc .vmem S1x2048x1024 .bf16) (h3 : a3.IsWhole)
  (a4 : Memref sig .tc .vmem S1x1024x2048 .bf16) (h4 : a4.IsWhole) (a5 : Memref sig .tc .vmem S1x2048 .f32) (h5 : a5.IsWhole)
  (a6 : Memref sig .tc .vmem S1x2048 .f32) (h6 : a6.IsWhole) (a7 : Memref sig .tc .vmem S512x2048 .f32) (h7 : a7.IsWhole)
  (a8 : Memref sig .tc .vmem S512x2048 .bf16) (h8 : a8.IsWhole) (a9 : Memref sig .tc .vmem S512x2048 .f32) (h9 : a9.IsWhole)
  (x : Vec Ideal S512x2048 .f32) (wu : Vec Ideal S1x2048x1024 .bf16) (wd : Vec Ideal S1x1024x2048 .bf16) (g b : Vec Ideal S1x2048 .f32)
  (xb : Vec Ideal S512x2048 .bf16) (acc : Vec Ideal S512x2048 .f32)

/-- At a row block's first point the body keeps the rows … -/
theorem first_keep (hc0 : cond0_0 i) (hc1 : ¬cond0_1 i) :
    sout0_A_0 (F := Ideal) c i a2 h2 a3 h3 a4 h4 a5 h5 a6 h6 a7 h7 a8 h8 a9 h9 hc0 hc1 x wu wd g b = k0_pay1 x := by
  unfold sout0_A_0
  rw [View.read_writes_eq_canon _ _ _ (scover0_A_0 c i a2 h2 a3 h3 a4 h4 a5 h5 a6 h6 a7 h7 a8 h8 a9 h9 hc0 hc1 x wu wd g b)]
  unfold kernelRun0_A
  dsimp only
  sl_unfold_words
  rw [View.canon_unit_zero hz]
  simp only [View.readAt_eq_ld, h2.read_unread, View.ld_unit_zero (S := S512x2048) hz]

/-- … and starts the sum. -/
theorem first_sum (hc0 : cond0_0 i) (hc1 : ¬cond0_1 i) :
    sout0_A_1 (F := Ideal) c i a2 h2 a3 h3 a4 h4 a5 h5 a6 h6 a7 h7 a8 h8 a9 h9 hc0 hc1 x wu wd g b = k0_pay3 (F := Ideal) (k0_pay1 x) wu (k0_pay2 (F := Ideal)) wd := by
  unfold sout0_A_1
  rw [View.read_writes_eq_canon _ _ _ (scover0_A_1 c i a2 h2 a3 h3 a4 h4 a5 h5 a6 h6 a7 h7 a8 h8 a9 h9 hc0 hc1 x wu wd g b)]
  unfold kernelRun0_A
  dsimp only
  sl_unfold_words
  rw [View.canon_cons_unit_zero (S := S512x2048) hz]
  simp only [View.readAt_eq_ld, View.readCov_unit_zero (S := S512x2048) _ hz, h2.read_unread, h3.read_unread, h4.read_unread, View.ld_unit_zero (S := S512x2048) hz,
    View.ld_unit_zero (S := S1x2048x1024) hz3, View.ld_unit_zero (S := S1x1024x2048) hz3]

/-- At a middle point it adds one stretch of hidden units. -/
theorem middle_sum (hc0 : ¬cond0_0 i) (hc1 : ¬cond0_1 i) :
    sout0_B_1 (F := Ideal) c i a2 h2 a3 h3 a4 h4 a5 h5 a6 h6 a7 h7 a8 h8 a9 h9 hc0 hc1 x wu wd g b xb acc = k0_pay3 xb wu acc wd := by
  unfold sout0_B_1
  rw [View.read_writes_eq_canon _ _ _ (scover0_B_1 c i a2 h2 a3 h3 a4 h4 a5 h5 a6 h6 a7 h7 a8 h8 a9 h9 hc0 hc1 x wu wd g b xb acc)]
  unfold kernelRun0_B
  dsimp only
  sl_unfold_words
  rw [View.canon_unit_zero hz]
  simp only [View.readAt_eq_ld, h8.read_unread, h9.read_unread, h3.read_unread, h4.read_unread, View.ld_unit_zero (S := S512x2048) hz,
    View.ld_unit_zero (S := S1x2048x1024) hz3, View.ld_unit_zero (S := S1x1024x2048) hz3]

/-- At the last it adds its stretch, and normalises. -/
theorem last_out (hc0 : ¬cond0_0 i) (hc1 : cond0_1 i) :
    out0_C_5 (F := Ideal) c i a2 h2 a3 h3 a4 h4 a5 h5 a6 h6 a7 h7 a8 h8 a9 h9 hc0 hc1 x wu wd g b xb acc = k0_pay4 x (k0_pay3 xb wu acc wd) g b := by
  unfold out0_C_5
  rw [View.read_writes_eq_canon _ _ _ (cover0_C_5 c i a2 h2 a3 h3 a4 h4 a5 h5 a6 h6 a7 h7 a8 h8 a9 h9 hc0 hc1 x wu wd g b xb acc)]
  unfold kernelRun0_C
  dsimp only
  sl_unfold_words
  rw [View.canon_unit_zero hz]
  simp only [View.readAt_eq_ld, View.readCov_unit_zero (S := S512x2048) _ hz, h2.read_unread, h5.read_unread, h6.read_unread, h8.read_unread, h9.read_unread, h3.read_unread, h4.read_unread,
    View.ld_unit_zero (S := S512x2048) hz, View.ld_unit_zero (S := S1x2048) hz,
    View.ld_unit_zero (S := S1x2048x1024) hz3, View.ld_unit_zero (S := S1x1024x2048) hz3]

end cases

/-! ## The scratch after each point -/

/-- One stretch, added to what the sum holds, in the arguments. -/
theorem step_at (t : Fin cfg0.N) (xb : FVec Ideal S512x2048 .bf16) (hx : ∀ r k, xb (ix2 r k) = X m c (rowOf t r) k) (acc : FVec Ideal S512x2048 .f32)
    (r : Fin 512) (l : Fin 2048) (ha : acc (ix2 r l) = upTo (Ffn.unit (X m c (rowOf t r)) (WU m c) (WD m c) l) (1024 * (t.val % 8))) :
    k0_pay3 (F := Ideal) xb (iblk m c 1 t) acc (iblk m c 2 t) (ix2 r l)
      = upTo (Ffn.unit (X m c (rowOf t r)) (WU m c) (WD m c) l) (1024 * (t.val % 8 + 1)) := by
  rw [step_apply, upTo_stretch _ _ (Nat.mod_lt _ (by decide)), ha]
  simp only [hx, blk_wu, blk_wd]
  rfl

/-- Before the last point of a row block: the scratch holds the rows, and the sum over the stretches so far. -/
theorem scratch_eq (n : ℕ) : ∀ (h : n < cfg0.N), n % 8 ≠ 7 →
    (∀ r k, (outsAt0 m c n h).2.1 (ix2 r k) = X m c (rowOf ⟨n, h⟩ r) k)
    ∧ ∀ r l, (outsAt0 m c n h).2.2 (ix2 r l)
        = upTo (Ffn.unit (X m c (rowOf ⟨n, h⟩ r)) (WU m c) (WD m c) l) (1024 * (n % 8 + 1)) := by
  induction n with
  | zero =>
    intro h _
    rw [outsAt0_A m c ⟨0, h⟩ rfl (show ¬0 % 8 = 7 by decide)]
    dsimp only
    rw [first_keep, first_sum]
    refine ⟨fun r k => (keep_apply _ r k).trans (blk_x m c _ r k), fun r l => ?_⟩
    exact step_at m c ⟨0, h⟩ _ (fun r k => (keep_apply _ r k).trans (blk_x m c _ r k)) _ r l (zeros_apply r l)
  | succ n ih =>
    intro h h7
    by_cases h0 : (n + 1) % 8 = 0
    · rw [outsAt0_A m c ⟨n + 1, h⟩ h0 h7]
      dsimp only
      rw [first_keep, first_sum]
      refine ⟨fun r k => (keep_apply _ r k).trans (blk_x m c _ r k), fun r l => ?_⟩
      refine step_at m c ⟨n + 1, h⟩ _ (fun r k => (keep_apply _ r k).trans (blk_x m c _ r k)) _ r l ?_
      dsimp only
      rw [zeros_apply, h0]
      rfl
    · have hn : n % 8 ≠ 7 := by omega
      obtain ⟨hx, ha⟩ := ih (Nat.lt_of_succ_lt h) hn
      have hrow : ∀ r, rowOf ⟨n, Nat.lt_of_succ_lt h⟩ r = rowOf ⟨n + 1, h⟩ r := fun r => Fin.ext (by
        show 512 * (n / 8) + r.val = 512 * ((n + 1) / 8) + r.val
        omega)
      rw [outsAt0_B m c ⟨n + 1, h⟩ h0 h7]
      dsimp only
      rw [middle_sum]
      refine ⟨fun r k => (hx r k).trans (by rw [hrow]), fun r l => ?_⟩
      refine step_at m c ⟨n + 1, h⟩ _ (fun r k => (hx r k).trans (by rw [hrow])) _ r l ((ha r l).trans ?_)
      dsimp only
      rw [hrow, show n % 8 + 1 = (n + 1) % 8 from by omega]

/-- What the last point of a row block writes. -/
theorem block_eq (t : Fin cfg0.N) (h7 : t.val % 8 = 7) (r : Fin 512) (l : Fin 2048) :
    (outsAt0 m c t.val t.isLt).1 (ix2 r l) = Ffn.row (X m c (rowOf t r)) (WU m c) (WD m c) (G m c) (B m c) l := by
  obtain ⟨n, h⟩ := t
  obtain ⟨n, rfl⟩ : ∃ n', n = n' + 1 := ⟨n - 1, by dsimp only at h7; omega⟩
  dsimp only at h7
  obtain ⟨hx, ha⟩ := scratch_eq m c n (Nat.lt_of_succ_lt h) (by omega)
  have hrow : ∀ r, rowOf ⟨n, Nat.lt_of_succ_lt h⟩ r = rowOf ⟨n + 1, h⟩ r := fun r => Fin.ext (by
    show 512 * (n / 8) + r.val = 512 * ((n + 1) / 8) + r.val
    omega)
  rw [outsAt0_C m c ⟨n + 1, h⟩ (by dsimp only; omega) h7]
  dsimp only
  rw [last_out, last_apply]
  unfold Ffn.row
  have hs : ∀ l, k0_pay3 (F := Ideal) (outsAt0 m c n (Nat.lt_of_succ_lt h)).2.1 (iblk m c 1 ⟨n + 1, h⟩) (outsAt0 m c n (Nat.lt_of_succ_lt h)).2.2 (iblk m c 2 ⟨n + 1, h⟩) (ix2 r l)
      = ∑ j, Ffn.unit (X m c (rowOf ⟨n + 1, h⟩ r)) (WU m c) (WD m c) l j := fun l => by
    rw [step_at m c ⟨n + 1, h⟩ _ (fun r k => (hx r k).trans (by rw [hrow])) _ r l ((ha r l).trans (by
      dsimp only
      rw [hrow, show n % 8 + 1 = (n + 1) % 8 from by omega]))]
    dsimp only
    rw [h7]
    exact upTo_all _
  congr 1
  · funext l
    rw [blk_x]
    exact congrArg (_ + ·) (hs l)
  · exact blk_g m c _ l
  · exact blk_b m c _ l

/-- The call's result at row `r`, place `l`. -/
theorem G5_apply (r : Fin 8192) (l : Fin 2048) :
    G5 m c (ix2 r l) = Ffn.row (X m c r) (WU m c) (WD m c) (G m c) (B m c) l := by
  have hr := r.isLt
  have hl := l.isLt
  have hp : pt5Of (ix2 r l) = 8 * (r.val / 512) + 7 := by
    show 8 * (1 * (r.val / 512 - 0) + 1 * (l.val / 2048 - 0)) + 7 = _
    omega
  have hb : pt5Of (ix2 r l) < cfg0.N := by rw [hp, show cfg0.N = 128 from N_0]; omega
  unfold G5
  rw [dif_pos hb, ← outsAt0_sweep m c _ hb]
  have hloc : loc5Of (ix2 r l) = ix2 (⟨r.val % 512, Nat.mod_lt _ (by decide)⟩ : Fin 512) l := by
    funext a
    match a with
    | ⟨0, _⟩ => rfl
    | ⟨1, _⟩ => exact Fin.ext (Nat.mod_eq_of_lt hl)
  rw [hloc, block_eq m c ⟨_, hb⟩ (by dsimp only; rw [hp]; omega)]
  congr 2
  exact Fin.ext (by show 512 * (pt5Of (ix2 r l) / 8) + r.val % 512 = r.val; rw [hp]; omega)

end Cert.Kernel2Ideal.Value

namespace Cert.Layer.Ffn

open Cert.Layer

theorem frame_reference : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

/-- The kernel's result array and the reference's hold the same rows. -/
theorem algebraic : Cert.algebraic_Kernel2Ideal_Reference2Ideal (hKernel2Ideal := Cert.Kernel2Ideal.Gen.facts)
    (hReference2Ideal := Cert.Reference2Ideal.Gen.facts) := by
  intro m ρ m' ρ' _ hagree
  refine ⟨fun c => Cert.Kernel2Ideal.Value.G5 m c, Cert.Kernel2Ideal.Value.run (F := Ideal) m ρ,
    (θ_run Cert.Reference2Ideal.defs _ _).mono (fun r h c => ⟨(h c).1.trans ?_, (h c).2⟩) (Cert.Reference2Ideal.Value.run (F := Ideal) m' ρ')⟩
  obtain ⟨h0, h1, h2, h3, h4⟩ := hagree c
  refine funext fun (i : Cert.Kernel2Ideal.S8192x2048.Idx) => ?_
  rw [eq_ix2 i]
  refine (Cert.Reference2Ideal.Value.res_apply m' c (i 0) (i 1)).trans (Eq.trans ?_ (Cert.Kernel2Ideal.Value.G5_apply m c (i 0) (i 1)).symm)
  rw [h0, h1, h2, h3, h4]

end Cert.Layer.Ffn

end
-- ==== Proof.Out.lean ====
/-
  The output projection: a row of the result is the layer norm of `α·x + [ya | yb | yc | yd]·W`. The body handles a
  block of 512 rows as four runs of 128 rows, each read, computed and stored on its own.
-/
module

public import proofs.«01_k».proof.Defs
public import proofs.«01_k».proof.Proof.Norm
public import proofs.«01_k».proof.Proof.Gen.Kernel3Ideal.Value
public import proofs.«01_k».proof.Proof.Gen.Reference3Ideal.Run
public import Idealize.ShloMosaic.Lib.Pointwise

@[expose] public section

set_option maxRecDepth 16384

noncomputable section

open Idealize.ShloMosaic Idealize.ShloMosaic.TcCoe Idealize.SL.Sem

namespace Cert.Layer.Out

/-- Four rows of 512 numbers side by side. -/
def side (ya yb yc yd : Fin 512 → EReal) (k : Fin 2048) : EReal :=
  if h : k.val < 512 then ya ⟨k.val, h⟩
  else if h : k.val - 512 < 512 then yb ⟨k.val - 512, h⟩
  else if h : k.val - 512 - 512 < 512 then yc ⟨k.val - 512 - 512, h⟩
  else yd ⟨k.val - 512 - 512 - 512, by have := k.isLt; omega⟩

/-- A row of the result. -/
def row (ya yb yc yd : Fin 512 → EReal) (w : Fin 2048 → Fin 2048 → EReal) (x g b : Fin 2048 → EReal) (l : Fin 2048) : EReal :=
  layerNorm (fun l => alpha * x l + ∑ k, side ya yb yc yd k * w k l) (g l) (b l) l

end Cert.Layer.Out

namespace Cert.Reference3Ideal.Value

open Cert.Reference3Ideal Cert.Reference3Ideal.Gen Cert.Layer

variable (m : (ℓ : Loc nD τ sig) → Buf (Elt Ideal) ℓ) (c : Dev nD)

/-- The reference at row `r`, place `l`. -/
theorem res_apply (r : Fin 8192) (l : Fin 2048) :
    res_main_v31 (F := Ideal) m c (ix2 r l)
      = Out.row (fun q => m (c.tc.loc main_arg0) (ix2 r q)) (fun q => m (c.tc.loc main_arg1) (ix2 r q)) (fun q => m (c.tc.loc main_arg2) (ix2 r q))
          (fun q => m (c.tc.loc main_arg3) (ix2 r q)) (fun k l => m (c.tc.loc main_arg4) (ix3 1 k l)) (fun k => m (c.tc.loc main_arg5) (ix2 r k))
          (fun l => m (c.tc.loc main_arg6) (ix1 l)) (fun l => m (c.tc.loc main_arg7) (ix1 l)) l := by
  unfold Out.row Out.side layerNorm mean alpha
  pointwise [res_main_v31]

end Cert.Reference3Ideal.Value

namespace Cert.Kernel3Ideal.Value

open Cert.Kernel3Ideal Cert.Kernel3Ideal.Gen Cert.Layer Idealize.ShloMosaic.StableHlo

variable (m : (ℓ : Loc nD τ sig) → Buf (Elt Ideal) ℓ) (c : Dev nD)

/-! ## The four runs of rows -/

section runs

variable (v0 v1 v2 v3 : FVec Ideal S128x512 .bf16) (w : FVec Ideal S1x2048x2048 .bf16) (x : FVec Ideal S128x2048 .f32) (g b : FVec Ideal S1x2048 .f32)
  (r : Fin 128) (l : Fin 2048)

/-- A row of the result from a run's loads. -/
abbrev runRow : EReal :=
  Out.row (fun q => v0 (ix2 r q)) (fun q => v1 (ix2 r q)) (fun q => v2 (ix2 r q)) (fun q => v3 (ix2 r q)) (fun k l => w (ix3 0 k l))
    (fun k => x (ix2 r k)) (fun l => g (ix2 0 l)) (fun l => b (ix2 0 l)) l

theorem run_a : k0_pay4 (F := Ideal) (k0_pay2 v0 v1 v2 v3 w x g) (k0_pay3 b) (ix2 r l) = runRow v0 v1 v2 v3 w x g b r l := by
  unfold runRow Out.row Out.side layerNorm mean alpha
  pointwise [k0_pay4, k0_pay2, k0_pay3]

theorem run_b : k0_pay9 (F := Ideal) (k0_pay5 g) (k0_pay6 b) (k0_pay7 v0 v1 v2 v3 w x) (k0_pay8 v0 v1 v2 v3 w x) (ix2 r l)
    = runRow v0 v1 v2 v3 w x g b r l := by
  unfold runRow Out.row Out.side layerNorm mean alpha
  pointwise [k0_pay9, k0_pay5, k0_pay6, k0_pay7, k0_pay8]

theorem run_c : k0_pay14 (F := Ideal) (k0_pay10 g) (k0_pay11 b) (k0_pay12 v0 v1 v2 v3 w x) (k0_pay13 v0 v1 v2 v3 w x) (Scalar.ofBits .f32 0x3727C5AC#32) (ix2 r l)
    = runRow v0 v1 v2 v3 w x g b r l := by
  unfold runRow Out.row Out.side layerNorm mean alpha
  pointwise [k0_pay14, k0_pay10, k0_pay11, k0_pay12, k0_pay13]

theorem run_d : k0_pay1 (F := Ideal) (k0_pay15 g) (k0_pay16 b) (k0_pay17 v0 v1 v2 v3 w x) (k0_pay18 v0 v1 v2 v3 w x) (ix2 r l)
    = runRow v0 v1 v2 v3 w x g b r l := by
  unfold runRow Out.row Out.side layerNorm mean alpha
  pointwise [k0_pay1, k0_pay15, k0_pay16, k0_pay17, k0_pay18]

end runs

theorem hz : (![0, 0] : Fin 2 → Nat) = fun _ => 0 := funext fun a => by fin_cases a <;> rfl
theorem hz3 : (![0, 0, 0] : Fin 3 → Nat) = fun _ => 0 := funext fun a => by fin_cases a <;> rfl

section block

variable (y0 y1 y2 y3 : Vec Ideal S512x512 .bf16) (w : Vec Ideal S1x2048x2048 .bf16) (x : Vec Ideal S512x2048 .f32) (g b : Vec Ideal S1x2048 .f32)

/-- A row of the result from the block. -/
abbrev blockRow (y : S512x2048.Idx) : EReal :=
  Out.row (fun q => y0 (ix2 (y 0) q)) (fun q => y1 (ix2 (y 0) q)) (fun q => y2 (ix2 (y 0) q)) (fun q => y3 (ix2 (y 0) q)) (fun k l => w (ix3 0 k l))
    (fun k => x (ix2 (y 0) k)) (fun l => g (ix2 0 l)) (fun l => b (ix2 0 l)) (y 1)

/-- A run loaded from row `o` of the block gives the block's rows from `o`. -/
theorem runRow_ld (o : ℕ) (ho : o + 128 ≤ 512) (inb inb') (i : S128x2048.Idx) :
    runRow (View.ld y0 (Rect.unit (s := S512x512) ![o, 0] S128x512.size inb)) (View.ld y1 (Rect.unit (s := S512x512) ![o, 0] S128x512.size inb))
      (View.ld y2 (Rect.unit (s := S512x512) ![o, 0] S128x512.size inb)) (View.ld y3 (Rect.unit (s := S512x512) ![o, 0] S128x512.size inb))
      (View.ld w r0_1) (View.ld x (Rect.unit (s := S512x2048) ![o, 0] S128x2048.size inb')) (View.ld g r0_3) (View.ld b r0_3) (i 0) (i 1)
    = blockRow y0 y1 y2 y3 w x g b ((Rect.unit (s := S512x2048) ![o, 0] S128x2048.size inb').emb i) := by
  have e1 : ∀ (q : Fin 512), (Rect.unit (s := S512x512) ![o, 0] S128x512.size inb).emb (ix2 (i 0) q)
      = ix2 (((Rect.unit (s := S512x2048) ![o, 0] S128x2048.size inb').emb i) 0) q := fun q => funext fun a => Fin.ext (by
    match a with
    | ⟨0, _⟩ => rfl
    | ⟨1, _⟩ => show 0 + 1 * q.val = q.val; omega)
  have e2 : ∀ (q : Fin 2048), (Rect.unit (s := S512x2048) ![o, 0] S128x2048.size inb').emb (ix2 (i 0) q)
      = ix2 (((Rect.unit (s := S512x2048) ![o, 0] S128x2048.size inb').emb i) 0) q := fun q => funext fun a => Fin.ext (by
    match a with
    | ⟨0, _⟩ => rfl
    | ⟨1, _⟩ => show 0 + 1 * q.val = q.val; omega)
  have e3 : ((Rect.unit (s := S512x2048) ![o, 0] S128x2048.size inb').emb i) 1 = i 1 :=
    Fin.ext (by show 0 + 1 * (i 1).val = (i 1).val; omega)
  have l1 : ∀ (y : Vec Ideal S512x512 .bf16) (q : Fin 512), View.ld y (Rect.unit (s := S512x512) ![o, 0] S128x512.size inb) (ix2 (i 0) q)
      = y (ix2 (((Rect.unit (s := S512x2048) ![o, 0] S128x2048.size inb').emb i) 0) q) := fun y q => congrArg y (e1 q)
  have l2 : ∀ (q : Fin 2048), View.ld x (Rect.unit (s := S512x2048) ![o, 0] S128x2048.size inb') (ix2 (i 0) q)
      = x (ix2 (((Rect.unit (s := S512x2048) ![o, 0] S128x2048.size inb').emb i) 0) q) := fun q => congrArg x (e2 q)
  unfold runRow blockRow
  have lw : View.ld w r0_1 = w := View.ld_unit_zero (S := S1x2048x2048) hz3 _ _
  have lg : ∀ v : Vec Ideal S1x2048 .f32, View.ld v r0_3 = v := fun v => View.ld_unit_zero (S := S1x2048) hz _ _
  rw [lw, lg, lg]
  congr 1
  · exact funext (l1 y0)
  · exact funext (l1 y1)
  · exact funext (l1 y2)
  · exact funext (l1 y3)
  · exact funext l2
  · exact e3.symm

/-- What the body leaves in the output's block. -/
theorem out_apply (y : S512x2048.Idx) : out0_8 (F := Ideal) y0 y1 y2 y3 w x g b y = blockRow y0 y1 y2 y3 w x g b y := by
  unfold out0_8
  refine View.canon_apply_of_pieces (Val := Elt Ideal) (S := S512x2048) (e := .f32) (blockRow y0 y1 y2 y3 w x g b) _ ?_ y ?_
  · intro p hp
    simp only [List.mem_cons, List.not_mem_nil, or_false] at hp
    rcases hp with rfl | rfl | rfl | rfl <;> intro i <;> obtain ⟨r, l, rfl⟩ : ∃ (r : Fin 128) (l : Fin 2048), i = ix2 r l := ⟨i 0, i 1, eq_ix2 i⟩
    · exact (run_d ..).trans (runRow_ld y0 y1 y2 y3 w x g b 384 (by decide) _ _ (ix2 r l))
    · exact (run_c ..).trans (runRow_ld y0 y1 y2 y3 w x g b 256 (by decide) _ _ (ix2 r l))
    · exact (run_b ..).trans (runRow_ld y0 y1 y2 y3 w x g b 128 (by decide) _ _ (ix2 r l))
    · exact (run_a ..).trans (runRow_ld y0 y1 y2 y3 w x g b 0 (by decide) _ _ (ix2 r l))
  · exact cover0_8 _ _ _ _ y

end block

/-! ## The arguments as the call finds them, and the blocks of point `t`: rows `512·t …` -/

theorem V_v0 : V m c main_v0 = (m (c.tc.loc main_arg4) : S2x2048x2048.Idx → EReal) := by
  unfold V hostOps0
  after_results
  rfl

theorem V_v1 (l : Fin 2048) : (V m c main_v1 : S1x2048.Idx → EReal) (ix2 0 l) = m (c.tc.loc main_arg6) (ix1 l) := by
  unfold V hostOps0
  after_results
  pointwise

theorem V_v2 (l : Fin 2048) : (V m c main_v2 : S1x2048.Idx → EReal) (ix2 0 l) = m (c.tc.loc main_arg7) (ix1 l) := by
  unfold V hostOps0
  after_results
  pointwise

theorem index_facts : ∀ t : Fin cfg0.N,
    (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = 1 ∧ win0_4.index t 1 = 0 ∧ win0_4.index t 2 = 0)
    ∧ (win0_5.index t 0 = t.val ∧ win0_5.index t 1 = 0) ∧ (win0_6.index t 0 = 0 ∧ win0_6.index t 1 = 0) ∧ (win0_7.index t 0 = 0 ∧ win0_7.index t 1 = 0)
    ∧ (win0_8.index t 0 = t.val ∧ win0_8.index t 1 = 0) :=
  (by decide +kernel : ∀ t : Fin grid0.N, _)

theorem lt_N (t : Fin cfg0.N) : t.val < 16 := lt_of_lt_of_eq t.isLt (show cfg0.N = 16 from N_0)

abbrev rowOf (t : Fin cfg0.N) (r : Fin 512) : Fin 8192 := ⟨512 * t.val + r.val, by have := lt_N t; have := r.isLt; omega⟩

/-- The result at row `r`, place `l`, from the arguments. -/
abbrev resultRow (r : Fin 8192) (l : Fin 2048) : EReal :=
  Out.row (fun q => m (c.tc.loc main_arg0) (ix2 r q)) (fun q => m (c.tc.loc main_arg1) (ix2 r q)) (fun q => m (c.tc.loc main_arg2) (ix2 r q))
    (fun q => m (c.tc.loc main_arg3) (ix2 r q)) (fun k l => m (c.tc.loc main_arg4) (ix3 1 k l)) (fun k => m (c.tc.loc main_arg5) (ix2 r k))
    (fun l => m (c.tc.loc main_arg6) (ix1 l)) (fun l => m (c.tc.loc main_arg7) (ix1 l)) l

theorem blk_w (t : Fin cfg0.N) (k l : Fin 2048) : (iblk m c 4 t : FVec Ideal S1x2048x2048 .bf16) (ix3 0 k l) = m (c.tc.loc main_arg4) (ix3 1 k l) := by
  have hi := (index_facts t).2.2.2.2.1
  unfold iblk
  rw [View.read_apply, ← congrFun (V_v0 m c)]
  show V m c main_v0 _ = _
  congr 1
  funext a
  apply Fin.ext
  match a with
  | ⟨0, _⟩ => show win0_4.index t 0 * 1 + 1 * 0 = 1; rw [hi.1]
  | ⟨1, _⟩ => show win0_4.index t 1 * 2048 + 1 * k.val = k.val; rw [hi.2.1]; omega
  | ⟨2, _⟩ => show win0_4.index t 2 * 2048 + 1 * l.val = l.val; rw [hi.2.2]; omega

theorem blk_ya (t : Fin cfg0.N) (r q : Fin 512) : (iblk m c 0 t : FVec Ideal S512x512 .bf16) (ix2 r q) = m (c.tc.loc main_arg0) (ix2 (rowOf t r) q) := by
  have hi := (index_facts t).1
  unfold iblk
  rw [View.read_apply]
  show V m c main_arg0 _ = _
  rw [V_main_arg0]
  congr 1
  funext a
  apply Fin.ext
  match a with
  | ⟨0, _⟩ => show win0_0.index t 0 * 512 + 1 * r.val = 512 * t.val + r.val; rw [hi.1]; omega
  | ⟨1, _⟩ => show win0_0.index t 1 * 512 + 1 * q.val = q.val; rw [hi.2]; omega

theorem blk_yb (t : Fin cfg0.N) (r q : Fin 512) : (iblk m c 1 t : FVec Ideal S512x512 .bf16) (ix2 r q) = m (c.tc.loc main_arg1) (ix2 (rowOf t r) q) := by
  have hi := (index_facts t).2.1
  unfold iblk
  rw [View.read_apply]
  show V m c main_arg1 _ = _
  rw [V_main_arg1]
  congr 1
  funext a
  apply Fin.ext
  match a with
  | ⟨0, _⟩ => show win0_1.index t 0 * 512 + 1 * r.val = 512 * t.val + r.val; rw [hi.1]; omega
  | ⟨1, _⟩ => show win0_1.index t 1 * 512 + 1 * q.val = q.val; rw [hi.2]; omega

theorem blk_yc (t : Fin cfg0.N) (r q : Fin 512) : (iblk m c 2 t : FVec Ideal S512x512 .bf16) (ix2 r q) = m (c.tc.loc main_arg2) (ix2 (rowOf t r) q) := by
  have hi := (index_facts t).2.2.1
  unfold iblk
  rw [View.read_apply]
  show V m c main_arg2 _ = _
  rw [V_main_arg2]
  congr 1
  funext a
  apply Fin.ext
  match a with
  | ⟨0, _⟩ => show win0_2.index t 0 * 512 + 1 * r.val = 512 * t.val + r.val; rw [hi.1]; omega
  | ⟨1, _⟩ => show win0_2.index t 1 * 512 + 1 * q.val = q.val; rw [hi.2]; omega

theorem blk_yd (t : Fin cfg0.N) (r q : Fin 512) : (iblk m c 3 t : FVec Ideal S512x512 .bf16) (ix2 r q) = m (c.tc.loc main_arg3) (ix2 (rowOf t r) q) := by
  have hi := (index_facts t).2.2.2.1
  unfold iblk
  rw [View.read_apply]
  show V m c main_arg3 _ = _
  rw [V_main_arg3]
  congr 1
  funext a
  apply Fin.ext
  match a with
  | ⟨0, _⟩ => show win0_3.index t 0 * 512 + 1 * r.val = 512 * t.val + r.val; rw [hi.1]; omega
  | ⟨1, _⟩ => show win0_3.index t 1 * 512 + 1 * q.val = q.val; rw [hi.2]; omega

theorem blk_x (t : Fin cfg0.N) (r : Fin 512) (k : Fin 2048) : (iblk m c 5 t : FVec Ideal S512x2048 .f32) (ix2 r k) = m (c.tc.loc main_arg5) (ix2 (rowOf t r) k) := by
  have hi := (index_facts t).2.2.2.2.2.1
  unfold iblk
  rw [View.read_apply]
  show V m c main_arg5 _ = _
  rw [V_main_arg5]
  congr 1
  funext a
  apply Fin.ext
  match a with
  | ⟨0, _⟩ => show win0_5.index t 0 * 512 + 1 * r.val = 512 * t.val + r.val; rw [hi.1]; omega
  | ⟨1, _⟩ => show win0_5.index t 1 * 2048 + 1 * k.val = k.val; rw [hi.2]; omega

theorem blk_g (t : Fin cfg0.N) (l : Fin 2048) : (iblk m c 6 t : FVec Ideal S1x2048 .f32) (ix2 0 l) = m (c.tc.loc main_arg6) (ix1 l) := by
  have hi := (index_facts t).2.2.2.2.2.2.1
  unfold iblk
  rw [View.read_apply, ← V_v1 m c]
  show V m c main_v1 _ = _
  congr 1
  funext a
  apply Fin.ext
  match a with
  | ⟨0, _⟩ => show win0_6.index t 0 * 1 + 1 * 0 = 0; rw [hi.1]
  | ⟨1, _⟩ => show win0_6.index t 1 * 2048 + 1 * l.val = l.val; rw [hi.2]; omega

theorem blk_b (t : Fin cfg0.N) (l : Fin 2048) : (iblk m c 7 t : FVec Ideal S1x2048 .f32) (ix2 0 l) = m (c.tc.loc main_arg7) (ix1 l) := by
  have hi := (index_facts t).2.2.2.2.2.2.2.1
  unfold iblk
  rw [View.read_apply, ← V_v2 m c]
  show V m c main_v2 _ = _
  congr 1
  funext a
  apply Fin.ext
  match a with
  | ⟨0, _⟩ => show win0_7.index t 0 * 1 + 1 * 0 = 0; rw [hi.1]
  | ⟨1, _⟩ => show win0_7.index t 1 * 2048 + 1 * l.val = l.val; rw [hi.2]; omega

/-! ## The result -/

/-- The result array. -/
abbrev result : Buf (Elt Ideal) ((c : Thread nD τ).loc main_v3) := fun (i : S8192x2048.Idx) => resultRow m c (i 0) (i 1)

theorem flushed_eq (t : Fin cfg0.N) : (dats m 0 c).flushed 8 t = ((cfg0.win 8).blk t).view.read (Elt Ideal) (result m c) := by
  have hi := (index_facts t).2.2.2.2.2.2.2.2
  rw [flushed8]
  funext (j : S512x2048.Idx)
  show out0_8 (F := Ideal) (iblk m c 0 t) (iblk m c 1 t) (iblk m c 2 t) (iblk m c 3 t) (iblk m c 4 t) (iblk m c 5 t) (iblk m c 6 t) (iblk m c 7 t) j = _
  rw [out_apply, View.read_apply]
  show blockRow _ _ _ _ _ _ _ _ j = resultRow m c ((((cfg0.win 8).blk t).view.emb j : S8192x2048.Idx) 0) ((((cfg0.win 8).blk t).view.emb j : S8192x2048.Idx) 1)
  rw [show ((((cfg0.win 8).blk t).view.emb j : S8192x2048.Idx) 0) = rowOf t (j 0) from Fin.ext (by
      show win0_8.index t 0 * 512 + 1 * (j 0).val = 512 * t.val + (j 0).val; rw [hi.1]; omega),
    show ((((cfg0.win 8).blk t).view.emb j : S8192x2048.Idx) 1) = j 1 from Fin.ext (by
      show win0_8.index t 1 * 2048 + 1 * (j 1).val = (j 1).val; rw [hi.2]; omega)]
  unfold blockRow resultRow
  congr 1
  · exact funext (blk_ya m c t (j 0))
  · exact funext (blk_yb m c t (j 0))
  · exact funext (blk_yc m c t (j 0))
  · exact funext (blk_yd m c t (j 0))
  · exact funext fun k => funext (blk_w m c t k)
  · exact funext (blk_x m c t (j 0))
  · exact funext (blk_g m c t)
  · exact funext (blk_b m c t)

/-- Every place of the result is in a block that some point writes back. -/
theorem covered (i : S8192x2048.Idx) : ∃ t : Fin cfg0.N, (cfg0.win 8).flush t = true ∧ i ∈ ((cfg0.win 8).blk t).view.set := by
  have h0 : (i 0 : Nat) < 8192 := (i 0).isLt
  have h1 : (i 1 : Nat) < 2048 := (i 1).isLt
  have hN : cfg0.N = 16 := N_0
  obtain ⟨t, ht⟩ : ∃ t : Fin cfg0.N, t.val = (i 0).val / 512 := ⟨⟨(i 0).val / 512, by omega⟩, rfl⟩
  refine ⟨t, flush0_8 t, ?_⟩
  have hi := (index_facts t).2.2.2.2.2.2.2.2
  show i ∈ ((View.whole main_v3).slice (win0_8.rect t)).set
  rw [View.set_slice_whole, Rect.mem_set_unit]
  intro a
  match a with
  | ⟨0, _⟩ =>
    show win0_8.index t 0 * 512 ≤ (i 0 : Nat) ∧ (i 0 : Nat) < win0_8.index t 0 * 512 + 512
    rw [hi.1]; omega
  | ⟨1, _⟩ =>
    show win0_8.index t 1 * 2048 ≤ (i 1 : Nat) ∧ (i 1 : Nat) < win0_8.index t 1 * 2048 + 2048
    rw [hi.2]; omega

theorem final_eq : (dats m 0 c).arrAt 8 cfg0.N = result m c :=
  (dats m 0 c).arrAt_eq_of_cover 8 (result m c) (fun t _ => flushed_eq m c t) covered

end Cert.Kernel3Ideal.Value

namespace Cert.Layer.Out

open Cert.Layer

theorem frame_reference : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

/-- The kernel's result array and the reference's hold the same rows. -/
theorem algebraic : Cert.algebraic_Kernel3Ideal_Reference3Ideal (hKernel3Ideal := Cert.Kernel3Ideal.Gen.facts)
    (hReference3Ideal := Cert.Reference3Ideal.Gen.facts) := by
  intro m ρ m' ρ' _ hagree
  refine ⟨fun c => Cert.Kernel3Ideal.Value.result m c,
    (θ_run Cert.Kernel3Ideal.defs _ _).mono (fun r h c => ⟨(h c).1.trans (Cert.Kernel3Ideal.Value.final_eq m c), (h c).2⟩)
      (Cert.Kernel3Ideal.Value.run_blocks (F := Ideal) m ρ),
    (θ_run Cert.Reference3Ideal.defs _ _).mono (fun r h c => ⟨(h c).1.trans ?_, (h c).2⟩) (Cert.Reference3Ideal.Value.run (F := Ideal) m' ρ')⟩
  obtain ⟨h0, h1, h2, h3, h4, h5, h6, h7⟩ := hagree c
  refine funext fun (i : Cert.Kernel3Ideal.S8192x2048.Idx) => ?_
  rw [eq_ix2 i]
  refine (Cert.Reference3Ideal.Value.res_apply m' c (i 0) (i 1)).trans ?_
  rw [h0, h1, h2, h3, h4, h5, h6, h7]
  rfl

end Cert.Layer.Out

end
-- ==== Proof.First.lean ====
/-
  The feed-forward call and the output projection of the first layer. They are the last layer's calls but for the layer
  whose weights they read; so each is the last layer's call run on the weights with the two layers exchanged, and its
  value is read off that call's.
-/
module

public import proofs.«01_k».proof.Defs
public import proofs.«01_k».proof.Proof.Ffn
public import proofs.«01_k».proof.Proof.Out
public import proofs.«01_k».proof.Proof.Gen.Kernel4Ideal.Value
public import proofs.«01_k».proof.Proof.Gen.Reference4Ideal.Run
public import proofs.«01_k».proof.Proof.Gen.Kernel5Ideal.Value
public import proofs.«01_k».proof.Proof.Gen.Reference5Ideal.Run

@[expose] public section

set_option maxRecDepth 16384

noncomputable section

open Idealize.ShloMosaic Idealize.ShloMosaic.TcCoe Idealize.SL.Sem

namespace Cert.Layer

/-- The weights with the two layers exchanged. -/
def swap {a b : ℕ} (w : (⟨3, ![2, a, b]⟩ : Shape).Idx → EReal) : (⟨3, ![2, a, b]⟩ : Shape).Idx → EReal :=
  fun i => w (ix3 (Fin.rev (n := 2) (i 0)) (i 1) (i 2))

theorem swap_apply {a b : ℕ} (w : (⟨3, ![2, a, b]⟩ : Shape).Idx → EReal) (p : Fin a) (q : Fin b) : swap w (ix3 1 p q) = w (ix3 0 p q) := rfl

end Cert.Layer

namespace Cert.Reference4Ideal.Value

open Cert.Reference4Ideal Cert.Reference4Ideal.Gen Cert.Layer

variable (m : (ℓ : Loc nD τ sig) → Buf (Elt Ideal) ℓ) (c : Dev nD)

/-- The reference at row `r`, place `l`. -/
theorem res_apply (r : Fin 8192) (l : Fin 2048) :
    res_main_v34 (F := Ideal) m c (ix2 r l)
      = Ffn.row (fun k => m (c.tc.loc main_arg0) (ix2 r k)) (fun k j => m (c.tc.loc main_arg1) (ix3 0 k j))
          (fun j l => m (c.tc.loc main_arg2) (ix3 0 j l)) (fun l => m (c.tc.loc main_arg3) (ix1 l)) (fun l => m (c.tc.loc main_arg4) (ix1 l)) l := by
  unfold Ffn.row Ffn.unit layerNorm mean alpha
  pointwise [res_main_v34]

end Cert.Reference4Ideal.Value

namespace Cert.Kernel4Ideal.Value

open Cert.Kernel4Ideal Cert.Kernel4Ideal.Gen Cert.Layer Idealize.ShloMosaic.StableHlo

variable (m : (ℓ : Loc nD τ sig) → Buf (Elt Ideal) ℓ) (c : Dev nD)

/-- The memory with the layers of the weights exchanged. -/
def exchanged : (ℓ : Loc nD τ sig) → Buf (Elt Ideal) ℓ :=
  Function.update (Function.update m (c.tc.loc main_arg1) (swap (m (c.tc.loc main_arg1) : S2x2048x8192.Idx → EReal)))
    (c.tc.loc main_arg2) (swap (m (c.tc.loc main_arg2) : S2x8192x2048.Idx → EReal))

theorem exchanged_of (r : Ref sig .tc) (h1 : ∀ c : Dev nD, (c.tc.loc r : Loc nD τ sig).2 ≠ (c.tc.loc main_arg1 : Loc nD τ sig).2)
    (h2 : ∀ c : Dev nD, (c.tc.loc r : Loc nD τ sig).2 ≠ (c.tc.loc main_arg2 : Loc nD τ sig).2) : exchanged m c (c.tc.loc r) = m (c.tc.loc r) :=
  (Function.update_of_ne (fun e => h2 c (congrArg Prod.snd e)) _ _).trans (Function.update_of_ne (fun e => h1 c (congrArg Prod.snd e)) _ _)

theorem arg1_ne_arg2 : ∀ c : Dev nD, (c.tc.loc main_arg1 : Loc nD τ sig).2 ≠ (c.tc.loc main_arg2 : Loc nD τ sig).2 := by decide

theorem exchanged_arg1 : exchanged m c (c.tc.loc main_arg1) = swap (m (c.tc.loc main_arg1) : S2x2048x8192.Idx → EReal) :=
  (Function.update_of_ne (fun e => arg1_ne_arg2 c (congrArg Prod.snd e)) _ _).trans (Function.update_self _ _ _)

theorem exchanged_arg2 : exchanged m c (c.tc.loc main_arg2) = swap (m (c.tc.loc main_arg2) : S2x8192x2048.Idx → EReal) :=
  Function.update_self _ _ _

/-! ## The blocks are the last layer's blocks of the exchanged memory -/

theorem index_facts : ∀ t : Fin cfg0.N,
    (win0_1.index t 0 = 0 ∧ win0_1.index t 1 = 0 ∧ win0_1.index t 2 = t.val % 8)
    ∧ (win0_2.index t 0 = 0 ∧ win0_2.index t 1 = t.val % 8 ∧ win0_2.index t 2 = 0) :=
  (by decide +kernel : ∀ t : Fin grid0.N, _)

theorem blk_x (t : Fin cfg0.N) : iblk m c 0 t = Kernel2Ideal.Gen.iblk (exchanged m c) c 0 t := by
  refine funext fun (i : S512x2048.Idx) => ?_
  rw [eq_ix2 i]
  refine (Kernel2Ideal.Value.blk_x m c t _ _).trans (Eq.trans ?_ (Kernel2Ideal.Value.blk_x (exchanged m c) c t _ _).symm)
  exact congrFun (exchanged_of m c main_arg0 (by decide) (by decide)).symm _

theorem blk_g (t : Fin cfg0.N) : iblk m c 3 t = Kernel2Ideal.Gen.iblk (exchanged m c) c 3 t := by
  refine funext fun (i : S1x2048.Idx) => ?_
  obtain ⟨l, rfl⟩ : ∃ l : Fin 2048, i = ix2 0 l := ⟨i 1, (eq_ix2 i).trans (congrArg (ix2 · (i 1)) (Subsingleton.elim (α := Fin 1) _ _))⟩
  refine (Kernel2Ideal.Value.blk_g m c t l).trans (Eq.trans ?_ (Kernel2Ideal.Value.blk_g (exchanged m c) c t l).symm)
  exact congrFun (exchanged_of m c main_arg3 (by decide) (by decide)).symm _

theorem blk_b (t : Fin cfg0.N) : iblk m c 4 t = Kernel2Ideal.Gen.iblk (exchanged m c) c 4 t := by
  refine funext fun (i : S1x2048.Idx) => ?_
  obtain ⟨l, rfl⟩ : ∃ l : Fin 2048, i = ix2 0 l := ⟨i 1, (eq_ix2 i).trans (congrArg (ix2 · (i 1)) (Subsingleton.elim (α := Fin 1) _ _))⟩
  refine (Kernel2Ideal.Value.blk_b m c t l).trans (Eq.trans ?_ (Kernel2Ideal.Value.blk_b (exchanged m c) c t l).symm)
  exact congrFun (exchanged_of m c main_arg4 (by decide) (by decide)).symm _

theorem blk_wu (t : Fin cfg0.N) : iblk m c 1 t = Kernel2Ideal.Gen.iblk (exchanged m c) c 1 t := by
  refine funext fun (i : S1x2048x1024.Idx) => ?_
  obtain ⟨k, j, rfl⟩ : ∃ (k : Fin 2048) (j : Fin 1024), i = ix3 0 k j :=
    ⟨i 1, i 2, (eq_ix3 i).trans (congrArg (ix3 · (i 1) (i 2)) (Subsingleton.elim (α := Fin 1) _ _))⟩
  refine Eq.trans ?_ (Kernel2Ideal.Value.blk_wu (exchanged m c) c t k j).symm
  refine Eq.trans ?_ ((congrFun (exchanged_arg1 m c) _).trans (swap_apply _ k _)).symm
  have hi := (index_facts t).1
  unfold iblk
  rw [View.read_apply]
  refine (congrFun (Kernel2Ideal.Value.V_v0 m c) _).trans ?_
  congr 1
  funext a
  apply Fin.ext
  match a with
  | ⟨0, _⟩ => show win0_1.index t 0 * 1 + 1 * 0 = 0; rw [hi.1]
  | ⟨1, _⟩ => show win0_1.index t 1 * 2048 + 1 * k.val = k.val; rw [hi.2.1]; omega
  | ⟨2, _⟩ => show win0_1.index t 2 * 1024 + 1 * j.val = 1024 * (t.val % 8) + j.val; rw [hi.2.2]; omega

theorem blk_wd (t : Fin cfg0.N) : iblk m c 2 t = Kernel2Ideal.Gen.iblk (exchanged m c) c 2 t := by
  refine funext fun (i : S1x1024x2048.Idx) => ?_
  obtain ⟨j, l, rfl⟩ : ∃ (j : Fin 1024) (l : Fin 2048), i = ix3 0 j l :=
    ⟨i 1, i 2, (eq_ix3 i).trans (congrArg (ix3 · (i 1) (i 2)) (Subsingleton.elim (α := Fin 1) _ _))⟩
  refine Eq.trans ?_ (Kernel2Ideal.Value.blk_wd (exchanged m c) c t j l).symm
  refine Eq.trans ?_ ((congrFun (exchanged_arg2 m c) _).trans (swap_apply _ _ l)).symm
  have hi := (index_facts t).2
  unfold iblk
  rw [View.read_apply]
  refine (congrFun (Kernel2Ideal.Value.V_v1 m c) _).trans ?_
  congr 1
  funext a
  apply Fin.ext
  match a with
  | ⟨0, _⟩ => show win0_2.index t 0 * 1 + 1 * 0 = 0; rw [hi.1]
  | ⟨1, _⟩ => show win0_2.index t 1 * 1024 + 1 * j.val = 1024 * (t.val % 8) + j.val; rw [hi.2.1]; omega
  | ⟨2, _⟩ => show win0_2.index t 2 * 2048 + 1 * l.val = l.val; rw [hi.2.2]; omega

section cases

variable (i : grid0.Coords) (a2 : Memref sig .tc .vmem S512x2048 .f32) (h2 : a2.IsWhole) (a3 : Memref sig .tc .vmem S1x2048x1024 .bf16) (h3 : a3.IsWhole)
  (a4 : Memref sig .tc .vmem S1x1024x2048 .bf16) (h4 : a4.IsWhole) (a5 : Memref sig .tc .vmem S1x2048 .f32) (h5 : a5.IsWhole)
  (a6 : Memref sig .tc .vmem S1x2048 .f32) (h6 : a6.IsWhole) (a7 : Memref sig .tc .vmem S512x2048 .f32) (h7 : a7.IsWhole)
  (a8 : Memref sig .tc .vmem S512x2048 .bf16) (h8 : a8.IsWhole) (a9 : Memref sig .tc .vmem S512x2048 .f32) (h9 : a9.IsWhole)
  (x : Vec Ideal S512x2048 .f32) (wu : Vec Ideal S1x2048x1024 .bf16) (wd : Vec Ideal S1x1024x2048 .bf16) (g b : Vec Ideal S1x2048 .f32)
  (xb : Vec Ideal S512x2048 .bf16) (acc : Vec Ideal S512x2048 .f32)

/-! The two bodies are the same, and leave the same whatever buffers hold their blocks. -/

theorem first_keep (hc0 : cond0_0 i) (hc1 : ¬cond0_1 i) :
    sout0_A_0 (F := Ideal) c i a2 h2 a3 h3 a4 h4 a5 h5 a6 h6 a7 h7 a8 h8 a9 h9 hc0 hc1 x wu wd g b = Kernel2Ideal.Gen.k0_pay1 x :=
  Kernel2Ideal.Value.first_keep c i a2 h2 a3 h3 a4 h4 a5 h5 a6 h6 a7 h7 a8 h8 a9 h9 x wu wd g b hc0 hc1

theorem first_sum (hc0 : cond0_0 i) (hc1 : ¬cond0_1 i) :
    sout0_A_1 (F := Ideal) c i a2 h2 a3 h3 a4 h4 a5 h5 a6 h6 a7 h7 a8 h8 a9 h9 hc0 hc1 x wu wd g b
      = Kernel2Ideal.Gen.k0_pay3 (F := Ideal) (Kernel2Ideal.Gen.k0_pay1 x) wu (Kernel2Ideal.Gen.k0_pay2 (F := Ideal)) wd :=
  Kernel2Ideal.Value.first_sum c i a2 h2 a3 h3 a4 h4 a5 h5 a6 h6 a7 h7 a8 h8 a9 h9 x wu wd g b hc0 hc1

theorem middle_sum (hc0 : ¬cond0_0 i) (hc1 : ¬cond0_1 i) :
    sout0_B_1 (F := Ideal) c i a2 h2 a3 h3 a4 h4 a5 h5 a6 h6 a7 h7 a8 h8 a9 h9 hc0 hc1 x wu wd g b xb acc = Kernel2Ideal.Gen.k0_pay3 xb wu acc wd :=
  Kernel2Ideal.Value.middle_sum c i a2 h2 a3 h3 a4 h4 a5 h5 a6 h6 a7 h7 a8 h8 a9 h9 x wu wd g b xb acc hc0 hc1

theorem last_out (hc0 : ¬cond0_0 i) (hc1 : cond0_1 i) :
    out0_C_5 (F := Ideal) c i a2 h2 a3 h3 a4 h4 a5 h5 a6 h6 a7 h7 a8 h8 a9 h9 hc0 hc1 x wu wd g b xb acc
      = Kernel2Ideal.Gen.k0_pay4 x (Kernel2Ideal.Gen.k0_pay3 xb wu acc wd) g b :=
  Kernel2Ideal.Value.last_out c i a2 h2 a3 h3 a4 h4 a5 h5 a6 h6 a7 h7 a8 h8 a9 h9 x wu wd g b xb acc hc0 hc1

end cases

/-- … so before a row block's last point the scratch holds what the last layer's holds, … -/
theorem scratch_eq (n : ℕ) : ∀ h : n < cfg0.N, n % 8 ≠ 7 → (outsAt0 m c n h).2 = (Kernel2Ideal.Gen.outsAt0 (exchanged m c) c n h).2 := by
  induction n with
  | zero =>
    intro h h7
    rw [outsAt0_A m c ⟨0, h⟩ rfl h7, Kernel2Ideal.Gen.outsAt0_A (exchanged m c) c ⟨0, h⟩ rfl h7]
    dsimp only
    rw [first_keep, first_sum, Kernel2Ideal.Value.first_keep, Kernel2Ideal.Value.first_sum, blk_x, blk_wu, blk_wd]
  | succ n ih =>
    intro h h7
    by_cases h0 : (n + 1) % 8 = 0
    · rw [outsAt0_A m c ⟨n + 1, h⟩ h0 h7, Kernel2Ideal.Gen.outsAt0_A (exchanged m c) c ⟨n + 1, h⟩ h0 h7]
      dsimp only
      rw [first_keep, first_sum, Kernel2Ideal.Value.first_keep, Kernel2Ideal.Value.first_sum, blk_x, blk_wu, blk_wd]
    · have hs := ih (Nat.lt_of_succ_lt h) (by omega)
      rw [outsAt0_B m c ⟨n + 1, h⟩ h0 h7, Kernel2Ideal.Gen.outsAt0_B (exchanged m c) c ⟨n + 1, h⟩ h0 h7]
      dsimp only
      rw [middle_sum, Kernel2Ideal.Value.middle_sum, blk_wu, blk_wd]
      refine Prod.ext ?_ ?_
      · show (outsAt0 m c n (Nat.lt_of_succ_lt h)).2.1 = (Kernel2Ideal.Gen.outsAt0 (exchanged m c) c n (Nat.lt_of_succ_lt h)).2.1
        rw [hs]
      show Kernel2Ideal.Gen.k0_pay3 (F := Ideal) (outsAt0 m c n (Nat.lt_of_succ_lt h)).2.1 _ (outsAt0 m c n (Nat.lt_of_succ_lt h)).2.2 _ = _
      rw [hs]
      rfl

/-- … and its last point writes what the last layer's writes. -/
theorem block_eq (n : ℕ) (h : n < cfg0.N) (h7 : n % 8 = 7) : (outsAt0 m c n h).1 = (Kernel2Ideal.Gen.outsAt0 (exchanged m c) c n h).1 := by
  obtain ⟨n, rfl⟩ : ∃ n', n = n' + 1 := ⟨n - 1, by omega⟩
  have h0 : ¬(n + 1) % 8 = 0 := by omega
  have hs := scratch_eq m c n (Nat.lt_of_succ_lt h) (by omega)
  rw [outsAt0_C m c ⟨n + 1, h⟩ h0 h7, Kernel2Ideal.Gen.outsAt0_C (exchanged m c) c ⟨n + 1, h⟩ h0 h7]
  dsimp only
  rw [last_out, Kernel2Ideal.Value.last_out, blk_x, blk_wu, blk_wd, blk_g, blk_b]
  show Kernel2Ideal.Gen.k0_pay4 (F := Ideal) _ (Kernel2Ideal.Gen.k0_pay3 (outsAt0 m c n (Nat.lt_of_succ_lt h)).2.1 _ (outsAt0 m c n (Nat.lt_of_succ_lt h)).2.2 _) _ _ = _
  rw [hs]
  rfl

/-- The call's result is the last layer's on the exchanged memory. -/
theorem G5_eq (i : S8192x2048.Idx) : G5 m c i = Kernel2Ideal.Value.G5 (exchanged m c) c i := by
  have h0 : (i 0 : Nat) < 8192 := (i 0).isLt
  have h1 : (i 1 : Nat) < 2048 := (i 1).isLt
  have hp : pt5Of i = 8 * (1 * ((i 0 : Nat) / 512 - 0) + 1 * ((i 1 : Nat) / 2048 - 0)) + 7 := rfl
  have hb : pt5Of i < cfg0.N := by
    rw [hp, show cfg0.N = 128 from N_0]
    omega
  unfold G5 Kernel2Ideal.Value.G5
  rw [dif_pos hb, ← outsAt0_sweep m c _ hb]
  refine Eq.trans ?_ (dif_pos (show Kernel2Ideal.Value.pt5Of i < Kernel2Ideal.cfg0.N from hb)).symm
  rw [← Kernel2Ideal.Value.outsAt0_sweep (exchanged m c) c _ hb, block_eq m c _ hb (by rw [hp]; omega)]
  rfl

end Cert.Kernel4Ideal.Value

namespace Cert.Reference5Ideal.Value

open Cert.Reference5Ideal Cert.Reference5Ideal.Gen Cert.Layer

variable (m : (ℓ : Loc nD τ sig) → Buf (Elt Ideal) ℓ) (c : Dev nD)

/-- The reference at row `r`, place `l`. -/
theorem res_apply (r : Fin 8192) (l : Fin 2048) :
    res_main_v31 (F := Ideal) m c (ix2 r l)
      = Out.row (fun q => m (c.tc.loc main_arg0) (ix2 r q)) (fun q => m (c.tc.loc main_arg1) (ix2 r q)) (fun q => m (c.tc.loc main_arg2) (ix2 r q))
          (fun q => m (c.tc.loc main_arg3) (ix2 r q)) (fun k l => m (c.tc.loc main_arg4) (ix3 0 k l)) (fun k => m (c.tc.loc main_arg5) (ix2 r k))
          (fun l => m (c.tc.loc main_arg6) (ix1 l)) (fun l => m (c.tc.loc main_arg7) (ix1 l)) l := by
  unfold Out.row Out.side layerNorm mean alpha
  pointwise [res_main_v31]

end Cert.Reference5Ideal.Value

namespace Cert.Kernel5Ideal.Value

open Cert.Kernel5Ideal Cert.Kernel5Ideal.Gen Cert.Layer Idealize.ShloMosaic.StableHlo

variable (m : (ℓ : Loc nD τ sig) → Buf (Elt Ideal) ℓ) (c : Dev nD)

/-- The memory with the layers of the weights exchanged. -/
def exchanged : (ℓ : Loc nD τ sig) → Buf (Elt Ideal) ℓ :=
  Function.update m (c.tc.loc main_arg4) (swap (m (c.tc.loc main_arg4) : S2x2048x2048.Idx → EReal))

theorem exchanged_arg4 : exchanged m c (c.tc.loc main_arg4) = swap (m (c.tc.loc main_arg4) : S2x2048x2048.Idx → EReal) :=
  Function.update_self _ _ _

theorem exchanged_of (r : Ref sig .tc) (h : ∀ c : Dev nD, (c.tc.loc r : Loc nD τ sig).2 ≠ (c.tc.loc main_arg4 : Loc nD τ sig).2) :
    exchanged m c (c.tc.loc r) = m (c.tc.loc r) :=
  Function.update_of_ne (fun e => h c (congrArg Prod.snd e)) _ _

/-! ## The blocks are the last layer's blocks of the exchanged memory -/

theorem index_facts : ∀ t : Fin cfg0.N, win0_4.index t 0 = 0 ∧ win0_4.index t 1 = 0 ∧ win0_4.index t 2 = 0 :=
  (by decide +kernel : ∀ t : Fin grid0.N, _)

theorem blk_y (t : Fin cfg0.N) : iblk m c 0 t = Kernel3Ideal.Gen.iblk (exchanged m c) c 0 t ∧ iblk m c 1 t = Kernel3Ideal.Gen.iblk (exchanged m c) c 1 t
    ∧ iblk m c 2 t = Kernel3Ideal.Gen.iblk (exchanged m c) c 2 t ∧ iblk m c 3 t = Kernel3Ideal.Gen.iblk (exchanged m c) c 3 t := by
  refine ⟨funext fun (i : S512x512.Idx) => ?_, funext fun (i : S512x512.Idx) => ?_, funext fun (i : S512x512.Idx) => ?_, funext fun (i : S512x512.Idx) => ?_⟩ <;>
    rw [eq_ix2 i]
  · exact (Kernel3Ideal.Value.blk_ya m c t _ _).trans ((congrFun (exchanged_of m c main_arg0 (by decide)).symm _).trans
      (Kernel3Ideal.Value.blk_ya (exchanged m c) c t _ _).symm)
  · exact (Kernel3Ideal.Value.blk_yb m c t _ _).trans ((congrFun (exchanged_of m c main_arg1 (by decide)).symm _).trans
      (Kernel3Ideal.Value.blk_yb (exchanged m c) c t _ _).symm)
  · exact (Kernel3Ideal.Value.blk_yc m c t _ _).trans ((congrFun (exchanged_of m c main_arg2 (by decide)).symm _).trans
      (Kernel3Ideal.Value.blk_yc (exchanged m c) c t _ _).symm)
  · exact (Kernel3Ideal.Value.blk_yd m c t _ _).trans ((congrFun (exchanged_of m c main_arg3 (by decide)).symm _).trans
      (Kernel3Ideal.Value.blk_yd (exchanged m c) c t _ _).symm)

theorem blk_w (t : Fin cfg0.N) : iblk m c 4 t = Kernel3Ideal.Gen.iblk (exchanged m c) c 4 t := by
  refine funext fun (i : S1x2048x2048.Idx) => ?_
  obtain ⟨k, l, rfl⟩ : ∃ k l : Fin 2048, i = ix3 0 k l :=
    ⟨i 1, i 2, (eq_ix3 i).trans (congrArg (ix3 · (i 1) (i 2)) (Subsingleton.elim (α := Fin 1) _ _))⟩
  refine Eq.trans ?_ (Kernel3Ideal.Value.blk_w (exchanged m c) c t k l).symm
  refine Eq.trans ?_ ((congrFun (exchanged_arg4 m c) _).trans (swap_apply _ k l)).symm
  have hi := index_facts t
  unfold iblk
  rw [View.read_apply]
  refine (congrFun (Kernel3Ideal.Value.V_v0 m c) _).trans ?_
  congr 1
  funext a
  apply Fin.ext
  match a with
  | ⟨0, _⟩ => show win0_4.index t 0 * 1 + 1 * 0 = 0; rw [hi.1]
  | ⟨1, _⟩ => show win0_4.index t 1 * 2048 + 1 * k.val = k.val; rw [hi.2.1]; omega
  | ⟨2, _⟩ => show win0_4.index t 2 * 2048 + 1 * l.val = l.val; rw [hi.2.2]; omega

theorem blk_x (t : Fin cfg0.N) : iblk m c 5 t = Kernel3Ideal.Gen.iblk (exchanged m c) c 5 t := by
  refine funext fun (i : S512x2048.Idx) => ?_
  rw [eq_ix2 i]
  exact (Kernel3Ideal.Value.blk_x m c t _ _).trans ((congrFun (exchanged_of m c main_arg5 (by decide)).symm _).trans
    (Kernel3Ideal.Value.blk_x (exchanged m c) c t _ _).symm)

theorem blk_gb (t : Fin cfg0.N) : iblk m c 6 t = Kernel3Ideal.Gen.iblk (exchanged m c) c 6 t ∧ iblk m c 7 t = Kernel3Ideal.Gen.iblk (exchanged m c) c 7 t := by
  refine ⟨funext fun (i : S1x2048.Idx) => ?_, funext fun (i : S1x2048.Idx) => ?_⟩ <;>
    obtain ⟨l, rfl⟩ : ∃ l : Fin 2048, i = ix2 0 l := ⟨i 1, (eq_ix2 i).trans (congrArg (ix2 · (i 1)) (Subsingleton.elim (α := Fin 1) _ _))⟩
  · exact (Kernel3Ideal.Value.blk_g m c t l).trans ((congrFun (exchanged_of m c main_arg6 (by decide)).symm _).trans
      (Kernel3Ideal.Value.blk_g (exchanged m c) c t l).symm)
  · exact (Kernel3Ideal.Value.blk_b m c t l).trans ((congrFun (exchanged_of m c main_arg7 (by decide)).symm _).trans
      (Kernel3Ideal.Value.blk_b (exchanged m c) c t l).symm)

theorem out_eq : @out0_8 Ideal _ = @Kernel3Ideal.Gen.out0_8 Ideal _ := rfl

theorem flushed_eq (t : Fin cfg0.N) :
    (dats m 0 c).flushed 8 t = ((cfg0.win 8).blk t).view.read (Elt Ideal) (Kernel3Ideal.Value.result (exchanged m c) c) := by
  refine Eq.trans ?_ (Kernel3Ideal.Value.flushed_eq (exchanged m c) c t)
  rw [flushed8, Kernel3Ideal.Value.flushed8, (blk_y m c t).1, (blk_y m c t).2.1, (blk_y m c t).2.2.1, (blk_y m c t).2.2.2, blk_w, blk_x,
    (blk_gb m c t).1, (blk_gb m c t).2, out_eq]
  rfl

/-- The call's result is the last layer's on the exchanged memory. -/
theorem final_eq : (dats m 0 c).arrAt 8 cfg0.N = Kernel3Ideal.Value.result (exchanged m c) c :=
  (dats m 0 c).arrAt_eq_of_cover 8 (Kernel3Ideal.Value.result (exchanged m c) c) (fun t _ => flushed_eq m c t) Kernel3Ideal.Value.covered

end Cert.Kernel5Ideal.Value

namespace Cert.Layer.First

open Cert.Layer

theorem ffn_frame_reference : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

theorem out_frame_reference : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)

/-- A row of the feed-forward call's result, in the arguments. -/
theorem ffn_apply (m : (ℓ : Loc Cert.Kernel4Ideal.nD Cert.Kernel4Ideal.τ Cert.Kernel4Ideal.sig) → Buf (Elt Ideal) ℓ) (c : Dev Cert.Kernel4Ideal.nD)
    (r : Fin 8192) (l : Fin 2048) :
    Cert.Kernel4Ideal.Value.G5 m c (ix2 r l)
      = Ffn.row (fun k => m (c.tc.loc Cert.Kernel4Ideal.main_arg0) (ix2 r k)) (fun k j => m (c.tc.loc Cert.Kernel4Ideal.main_arg1) (ix3 0 k j))
          (fun j l => m (c.tc.loc Cert.Kernel4Ideal.main_arg2) (ix3 0 j l)) (fun l => m (c.tc.loc Cert.Kernel4Ideal.main_arg3) (ix1 l))
          (fun l => m (c.tc.loc Cert.Kernel4Ideal.main_arg4) (ix1 l)) l := by
  refine (Cert.Kernel4Ideal.Value.G5_eq m c _).trans ((Cert.Kernel2Ideal.Value.G5_apply (Cert.Kernel4Ideal.Value.exchanged m c) c r l).trans ?_)
  congr 1
  · exact funext fun k => congrFun (Cert.Kernel4Ideal.Value.exchanged_of m c Cert.Kernel4Ideal.main_arg0 (by decide) (by decide)) _
  · exact funext fun k => funext fun j => (congrFun (Cert.Kernel4Ideal.Value.exchanged_arg1 m c) _).trans (swap_apply _ k j)
  · exact funext fun j => funext fun l => (congrFun (Cert.Kernel4Ideal.Value.exchanged_arg2 m c) _).trans (swap_apply _ j l)
  · exact funext fun l => congrFun (Cert.Kernel4Ideal.Value.exchanged_of m c Cert.Kernel4Ideal.main_arg3 (by decide) (by decide)) _
  · exact funext fun l => congrFun (Cert.Kernel4Ideal.Value.exchanged_of m c Cert.Kernel4Ideal.main_arg4 (by decide) (by decide)) _

/-- A row of the output projection's result, in the arguments. -/
theorem out_apply (m : (ℓ : Loc Cert.Kernel5Ideal.nD Cert.Kernel5Ideal.τ Cert.Kernel5Ideal.sig) → Buf (Elt Ideal) ℓ) (c : Dev Cert.Kernel5Ideal.nD)
    (r : Fin 8192) (l : Fin 2048) :
    Cert.Kernel3Ideal.Value.resultRow (Cert.Kernel5Ideal.Value.exchanged m c) c r l
      = Out.row (fun q => m (c.tc.loc Cert.Kernel5Ideal.main_arg0) (ix2 r q)) (fun q => m (c.tc.loc Cert.Kernel5Ideal.main_arg1) (ix2 r q))
          (fun q => m (c.tc.loc Cert.Kernel5Ideal.main_arg2) (ix2 r q)) (fun q => m (c.tc.loc Cert.Kernel5Ideal.main_arg3) (ix2 r q))
          (fun k l => m (c.tc.loc Cert.Kernel5Ideal.main_arg4) (ix3 0 k l)) (fun k => m (c.tc.loc Cert.Kernel5Ideal.main_arg5) (ix2 r k))
          (fun l => m (c.tc.loc Cert.Kernel5Ideal.main_arg6) (ix1 l)) (fun l => m (c.tc.loc Cert.Kernel5Ideal.main_arg7) (ix1 l)) l := by
  unfold Cert.Kernel3Ideal.Value.resultRow
  congr 1
  · exact funext fun q => congrFun (Cert.Kernel5Ideal.Value.exchanged_of m c Cert.Kernel5Ideal.main_arg0 (by decide)) _
  · exact funext fun q => congrFun (Cert.Kernel5Ideal.Value.exchanged_of m c Cert.Kernel5Ideal.main_arg1 (by decide)) _
  · exact funext fun q => congrFun (Cert.Kernel5Ideal.Value.exchanged_of m c Cert.Kernel5Ideal.main_arg2 (by decide)) _
  · exact funext fun q => congrFun (Cert.Kernel5Ideal.Value.exchanged_of m c Cert.Kernel5Ideal.main_arg3 (by decide)) _
  · exact funext fun k => funext fun l => (congrFun (Cert.Kernel5Ideal.Value.exchanged_arg4 m c) _).trans (swap_apply _ k l)
  · exact funext fun k => congrFun (Cert.Kernel5Ideal.Value.exchanged_of m c Cert.Kernel5Ideal.main_arg5 (by decide)) _
  · exact funext fun l => congrFun (Cert.Kernel5Ideal.Value.exchanged_of m c Cert.Kernel5Ideal.main_arg6 (by decide)) _
  · exact funext fun l => congrFun (Cert.Kernel5Ideal.Value.exchanged_of m c Cert.Kernel5Ideal.main_arg7 (by decide)) _

theorem ffn_algebraic : Cert.algebraic_Kernel4Ideal_Reference4Ideal (hKernel4Ideal := Cert.Kernel4Ideal.Gen.facts)
    (hReference4Ideal := Cert.Reference4Ideal.Gen.facts) := by
  intro m ρ m' ρ' _ hagree
  refine ⟨fun c => Cert.Kernel4Ideal.Value.G5 m c, Cert.Kernel4Ideal.Value.run (F := Ideal) m ρ,
    (θ_run Cert.Reference4Ideal.defs _ _).mono (fun r h c => ⟨(h c).1.trans ?_, (h c).2⟩) (Cert.Reference4Ideal.Value.run (F := Ideal) m' ρ')⟩
  obtain ⟨h0, h1, h2, h3, h4⟩ := hagree c
  refine funext fun (i : Cert.Kernel4Ideal.S8192x2048.Idx) => ?_
  rw [eq_ix2 i]
  refine (Cert.Reference4Ideal.Value.res_apply m' c (i 0) (i 1)).trans (Eq.trans ?_ (ffn_apply m c (i 0) (i 1)).symm)
  rw [h0, h1, h2, h3, h4]

theorem out_algebraic : Cert.algebraic_Kernel5Ideal_Reference5Ideal (hKernel5Ideal := Cert.Kernel5Ideal.Gen.facts)
    (hReference5Ideal := Cert.Reference5Ideal.Gen.facts) := by
  intro m ρ m' ρ' _ hagree
  refine ⟨fun c => Cert.Kernel3Ideal.Value.result (Cert.Kernel5Ideal.Value.exchanged m c) c,
    (θ_run Cert.Kernel5Ideal.defs _ _).mono (fun r h c => ⟨(h c).1.trans (Cert.Kernel5Ideal.Value.final_eq m c), (h c).2⟩)
      (Cert.Kernel5Ideal.Value.run_blocks (F := Ideal) m ρ),
    (θ_run Cert.Reference5Ideal.defs _ _).mono (fun r h c => ⟨(h c).1.trans ?_, (h c).2⟩) (Cert.Reference5Ideal.Value.run (F := Ideal) m' ρ')⟩
  obtain ⟨h0, h1, h2, h3, h4, h5, h6, h7⟩ := hagree c
  refine funext fun (i : Cert.Kernel5Ideal.S8192x2048.Idx) => ?_
  rw [eq_ix2 i]
  refine (Cert.Reference5Ideal.Value.res_apply m' c (i 0) (i 1)).trans (Eq.trans ?_ (out_apply m c (i 0) (i 1)).symm)
  rw [h0, h1, h2, h3, h4, h5, h6, h7]

end Cert.Layer.First

end
-- ==== Proof.Sample.lean ====
/-
  The last layer's feed-forward call on the sample's 128 rows: one block of rows, eight grid points, of which each adds
  the products of 1024 hidden units. What it computes is stated with the prompt's call (Ffn.lean).
-/
module

public import proofs.«01_k».proof.Defs
public import proofs.«01_k».proof.Proof.Ffn
public import proofs.«01_k».proof.Proof.Gen.Kernel6Ideal.Value
public import proofs.«01_k».proof.Proof.Gen.Reference6Ideal.Run

@[expose] public section

set_option maxRecDepth 16384

noncomputable section

open Idealize.ShloMosaic Idealize.ShloMosaic.TcCoe Idealize.SL.Sem

namespace Cert.Reference6Ideal.Value

open Cert.Reference6Ideal Cert.Reference6Ideal.Gen Cert.Layer

variable (m : (ℓ : Loc nD τ sig) → Buf (Elt Ideal) ℓ) (c : Dev nD)

/-- The reference at row `r`, place `l`. -/
theorem res_apply (r : Fin 128) (l : Fin 2048) :
    res_main_v34 (F := Ideal) m c (ix2 r l)
      = Ffn.row (fun k => m (c.tc.loc main_arg0) (ix2 r k)) (fun k j => m (c.tc.loc main_arg1) (ix3 1 k j))
          (fun j l => m (c.tc.loc main_arg2) (ix3 1 j l)) (fun l => m (c.tc.loc main_arg3) (ix1 l)) (fun l => m (c.tc.loc main_arg4) (ix1 l)) l := by
  unfold Ffn.row Ffn.unit layerNorm mean alpha
  pointwise [res_main_v34]

end Cert.Reference6Ideal.Value

namespace Cert.Kernel6Ideal.Value

open Cert.Kernel6Ideal Cert.Kernel6Ideal.Gen Cert.Layer Idealize.ShloMosaic.StableHlo

variable (m : (ℓ : Loc nD τ sig) → Buf (Elt Ideal) ℓ) (c : Dev nD)

/-! ## The arguments, and the blocks of point `t`: all the rows, hidden units `1024·t …` -/

abbrev X (r : Fin 128) (k : Fin 2048) : EReal := m (c.tc.loc main_arg0) (ix2 r k)
abbrev WU (k : Fin 2048) (j : Fin 8192) : EReal := m (c.tc.loc main_arg1) (ix3 1 k j)
abbrev WD (j : Fin 8192) (l : Fin 2048) : EReal := m (c.tc.loc main_arg2) (ix3 1 j l)
abbrev G (l : Fin 2048) : EReal := m (c.tc.loc main_arg3) (ix1 l)
abbrev B (l : Fin 2048) : EReal := m (c.tc.loc main_arg4) (ix1 l)

/-- What the call finds in the arrays the host prepared: the weights, the scale and the shift. -/
theorem found : V m c main_v0 = (m (c.tc.loc main_arg1) : S2x2048x8192.Idx → EReal) ∧ V m c main_v1 = (m (c.tc.loc main_arg2) : S2x8192x2048.Idx → EReal)
    ∧ (∀ l, (V m c main_v2 : S1x2048.Idx → EReal) (ix2 0 l) = G m c l) ∧ ∀ l, (V m c main_v3 : S1x2048.Idx → EReal) (ix2 0 l) = B m c l := by
  unfold V hostOps0
  refine ⟨?_, ?_, fun l => ?_, fun l => ?_⟩ <;> after_results
  · rfl
  · rfl
  · pointwise
  · pointwise

theorem lt_N (t : Fin cfg0.N) : t.val < 8 := lt_of_lt_of_eq t.isLt N_0

abbrev unitOf (t : Fin cfg0.N) (j : Fin 1024) : Fin 8192 := ⟨1024 * t.val + j.val, by have := lt_N t; have := j.isLt; omega⟩

/-- Where the blocks lie. -/
theorem index_facts : ∀ t : Fin cfg0.N,
    win0_0.index t = ![0, 0] ∧ win0_1.index t = ![1, 0, t.val] ∧ win0_2.index t = ![1, t.val, 0] ∧ win0_3.index t = ![0, 0] ∧ win0_4.index t = ![0, 0] :=
  (by decide +kernel : ∀ t : Fin grid0.N, _)

theorem rows_at (t : Fin cfg0.N) (r : Fin 128) (k : Fin 2048) : (iblk m c 0 t : FVec Ideal S128x2048 .f32) (ix2 r k) = X m c r k := by
  obtain ⟨hi, -⟩ := index_facts t
  unfold iblk
  rw [View.read_apply]
  refine (congrFun (V_main_arg0 m c) _).trans (congrArg (m (c.tc.loc main_arg0)) (funext fun a => Fin.ext ?_))
  match a with
  | ⟨0, _⟩ => show win0_0.index t 0 * 128 + 1 * r.val = r.val; rw [hi]; show 0 * 128 + 1 * r.val = r.val; omega
  | ⟨1, _⟩ => show win0_0.index t 1 * 2048 + 1 * k.val = k.val; rw [hi]; show 0 * 2048 + 1 * k.val = k.val; omega

theorem up_at (t : Fin cfg0.N) (k : Fin 2048) (j : Fin 1024) : (iblk m c 1 t : FVec Ideal S1x2048x1024 .bf16) (ix3 0 k j) = WU m c k (unitOf t j) := by
  obtain ⟨-, hi, -⟩ := index_facts t
  unfold iblk
  rw [View.read_apply]
  refine (congrFun (found m c).1 _).trans (congrArg (m (c.tc.loc main_arg1)) (funext fun a => Fin.ext ?_))
  match a with
  | ⟨0, _⟩ => show win0_1.index t 0 * 1 + 1 * 0 = 1; rw [hi]; rfl
  | ⟨1, _⟩ => show win0_1.index t 1 * 2048 + 1 * k.val = k.val; rw [hi]; show 0 * 2048 + 1 * k.val = k.val; omega
  | ⟨2, _⟩ => show win0_1.index t 2 * 1024 + 1 * j.val = 1024 * t.val + j.val; rw [hi]; show t.val * 1024 + 1 * j.val = _; omega

theorem down_at (t : Fin cfg0.N) (j : Fin 1024) (l : Fin 2048) : (iblk m c 2 t : FVec Ideal S1x1024x2048 .bf16) (ix3 0 j l) = WD m c (unitOf t j) l := by
  obtain ⟨-, -, hi, -⟩ := index_facts t
  unfold iblk
  rw [View.read_apply]
  refine (congrFun (found m c).2.1 _).trans (congrArg (m (c.tc.loc main_arg2)) (funext fun a => Fin.ext ?_))
  match a with
  | ⟨0, _⟩ => show win0_2.index t 0 * 1 + 1 * 0 = 1; rw [hi]; rfl
  | ⟨1, _⟩ => show win0_2.index t 1 * 1024 + 1 * j.val = 1024 * t.val + j.val; rw [hi]; show t.val * 1024 + 1 * j.val = _; omega
  | ⟨2, _⟩ => show win0_2.index t 2 * 2048 + 1 * l.val = l.val; rw [hi]; show 0 * 2048 + 1 * l.val = l.val; omega

/-- A block that is a row of 2048 numbers, whole. -/
theorem whole_row (v : S1x2048.Idx → EReal) (e : S1x2048.Idx) (l : Fin 2048) (h : (e 1).val = l.val) : v e = v (ix2 0 l) :=
  congrArg v ((eq_ix2 e).trans (congrArg₂ ix2 (Subsingleton.elim (α := Fin 1) _ _) (Fin.ext h)))

theorem scale_at (t : Fin cfg0.N) (l : Fin 2048) : (iblk m c 3 t : FVec Ideal S1x2048 .f32) (ix2 0 l) = G m c l := by
  obtain ⟨-, -, -, hi, -⟩ := index_facts t
  unfold iblk
  rw [View.read_apply]
  refine (whole_row (V m c main_v2) _ l ?_).trans ((found m c).2.2.1 l)
  show win0_3.index t 1 * 2048 + 1 * l.val = l.val
  rw [hi]; show 0 * 2048 + 1 * l.val = l.val; omega

theorem shift_at (t : Fin cfg0.N) (l : Fin 2048) : (iblk m c 4 t : FVec Ideal S1x2048 .f32) (ix2 0 l) = B m c l := by
  obtain ⟨-, -, -, -, hi⟩ := index_facts t
  unfold iblk
  rw [View.read_apply]
  refine (whole_row (V m c main_v3) _ l ?_).trans ((found m c).2.2.2 l)
  show win0_4.index t 1 * 2048 + 1 * l.val = l.val
  rw [hi]; show 0 * 2048 + 1 * l.val = l.val; omega

/-! ## What the points leave -/

/-- The sum over the hidden units before `1024·n`. -/
abbrev sumTo (n : ℕ) (r : Fin 128) (l : Fin 2048) : EReal := upTo (Ffn.unit (X m c r) (WU m c) (WD m c) l) (1024 * n)

/-- Point `t` adds its stretch. -/
theorem step_at (t : Fin cfg0.N) (xb : FVec Ideal S128x2048 .bf16) (hx : ∀ r k, xb (ix2 r k) = X m c r k) (acc : FVec Ideal S128x2048 .f32)
    (r : Fin 128) (l : Fin 2048) (ha : acc (ix2 r l) = sumTo m c t.val r l) :
    k0_pay3 (F := Ideal) xb (iblk m c 1 t) acc (iblk m c 2 t) (ix2 r l) = sumTo m c (t.val + 1) r l := by
  have e : ∀ (wu : FVec Ideal S1x2048x1024 .bf16) (wd : FVec Ideal S1x1024x2048 .bf16), k0_pay3 (F := Ideal) xb wu acc wd (ix2 r l)
      = acc (ix2 r l) + ∑ j : Fin 1024, max (∑ k, xb (ix2 r k) * wu (ix3 0 k j)) 0 * max (∑ k, xb (ix2 r k) * wu (ix3 0 k j)) 0 * wd (ix3 0 j l) := by
    intro wu wd
    pointwise [k0_pay3]
  rw [e, ha]
  unfold sumTo
  rw [upTo_stretch _ _ (lt_N t)]
  simp only [hx, up_at, down_at]
  rfl

theorem hz2 : (![0, 0] : Fin 2 → Nat) = fun _ => 0 := funext fun a => by fin_cases a <;> rfl
theorem hz3 : (![0, 0, 0] : Fin 3 → Nat) = fun _ => 0 := funext fun a => by fin_cases a <;> rfl

/-- The first point keeps the rows and adds its stretch to 0. -/
theorem first (h : 0 < cfg0.N) :
    (outsAt0 m c 0 h).2 = (k0_pay1 (F := Ideal) (iblk m c 0 ⟨0, h⟩), k0_pay3 (F := Ideal) (k0_pay1 (iblk m c 0 ⟨0, h⟩)) (iblk m c 1 ⟨0, h⟩) (k0_pay2 (F := Ideal)) (iblk m c 2 ⟨0, h⟩)) := by
  rw [outsAt0_A m c ⟨0, h⟩ rfl (show ¬0 % 8 = 7 by decide)]
  dsimp only
  refine Prod.ext ?_ ?_ <;> dsimp only
  · unfold sout0_A_0
    refine (View.read_writes_eq_canon _ _ _ fun y => ?_).trans ?_
    · exact scover0_A_0 ..
    unfold kernelRun0_A
    dsimp only
    sl_unfold_words
    rw [View.canon_unit_zero hz2]
    simp only [View.readAt_eq_ld, (hs0_0 _).read_unread, View.ld_unit_zero (S := S128x2048) hz2]
  · unfold sout0_A_1
    refine (View.read_writes_eq_canon _ _ _ fun y => ?_).trans ?_
    · exact scover0_A_1 ..
    unfold kernelRun0_A
    dsimp only
    sl_unfold_words
    rw [View.canon_cons_unit_zero (S := S128x2048) hz2]
    simp only [View.readAt_eq_ld, View.readCov_unit_zero (S := S128x2048) _ hz2, (hs0_0 _).read_unread, (hs0_1 _).read_unread, (hs0_2 _).read_unread,
      View.ld_unit_zero (S := S128x2048) hz2, View.ld_unit_zero (S := S1x2048x1024) hz3, View.ld_unit_zero (S := S1x1024x2048) hz3]

/-- A later point but the last keeps the rows and adds its stretch. -/
theorem middle (n : ℕ) (h : n + 1 < cfg0.N) (h0 : ¬(n + 1) % 8 = 0) (h7 : ¬(n + 1) % 8 = 7) :
    (outsAt0 m c (n + 1) h).2 = ((outsAt0 m c n (Nat.lt_of_succ_lt h)).2.1,
      k0_pay3 (F := Ideal) (outsAt0 m c n (Nat.lt_of_succ_lt h)).2.1 (iblk m c 1 ⟨n + 1, h⟩) (outsAt0 m c n (Nat.lt_of_succ_lt h)).2.2 (iblk m c 2 ⟨n + 1, h⟩)) := by
  rw [outsAt0_B m c ⟨n + 1, h⟩ h0 h7]
  dsimp only
  refine Prod.ext rfl ?_
  dsimp only
  unfold sout0_B_1
  refine (View.read_writes_eq_canon _ _ _ fun y => ?_).trans ?_
  · exact scover0_B_1 ..
  unfold kernelRun0_B
  dsimp only
  sl_unfold_words
  rw [View.canon_unit_zero hz2]
  simp only [View.readAt_eq_ld, (Memref.isWhole_whole _).read_unread, (hs0_1 _).read_unread, (hs0_2 _).read_unread,
    View.ld_unit_zero (S := S128x2048) hz2, View.ld_unit_zero (S := S1x2048x1024) hz3, View.ld_unit_zero (S := S1x1024x2048) hz3]
  rfl

/-- The last adds its stretch and writes the norm. -/
theorem last (n : ℕ) (h : n + 1 < cfg0.N) (h0 : ¬(n + 1) % 8 = 0) (h7 : (n + 1) % 8 = 7) :
    (outsAt0 m c (n + 1) h).1 = k0_pay4 (F := Ideal) (iblk m c 0 ⟨n + 1, h⟩)
      (k0_pay3 (outsAt0 m c n (Nat.lt_of_succ_lt h)).2.1 (iblk m c 1 ⟨n + 1, h⟩) (outsAt0 m c n (Nat.lt_of_succ_lt h)).2.2 (iblk m c 2 ⟨n + 1, h⟩))
      (iblk m c 3 ⟨n + 1, h⟩) (iblk m c 4 ⟨n + 1, h⟩) := by
  rw [outsAt0_C m c ⟨n + 1, h⟩ h0 h7]
  dsimp only
  unfold out0_C_5
  refine (View.read_writes_eq_canon _ _ _ fun y => ?_).trans ?_
  · exact cover0_C_5 ..
  unfold kernelRun0_C
  dsimp only
  sl_unfold_words
  rw [View.canon_unit_zero hz2]
  simp only [View.readAt_eq_ld, View.readCov_unit_zero (S := S128x2048) _ hz2, (Memref.isWhole_whole _).read_unread, (hs0_0 _).read_unread, (hs0_1 _).read_unread,
    (hs0_2 _).read_unread, (hs0_3 _).read_unread, (hs0_4 _).read_unread, View.ld_unit_zero (S := S128x2048) hz2, View.ld_unit_zero (S := S1x2048) hz2,
    View.ld_unit_zero (S := S1x2048x1024) hz3, View.ld_unit_zero (S := S1x1024x2048) hz3]
  rfl

/-- Before the last point: the rows, and the sum over the stretches so far. -/
theorem carried (n : ℕ) : ∀ h : n < cfg0.N, n < 7 →
    (∀ r k, (outsAt0 m c n h).2.1 (ix2 r k) = X m c r k) ∧ ∀ r l, (outsAt0 m c n h).2.2 (ix2 r l) = sumTo m c (n + 1) r l := by
  induction n with
  | zero =>
    intro h _
    have hx : ∀ r k, k0_pay1 (F := Ideal) (iblk m c 0 ⟨0, h⟩) (ix2 r k) = X m c r k := fun r k => by
      rw [← rows_at m c ⟨0, h⟩]
      generalize (iblk m c 0 ⟨0, h⟩ : FVec Ideal S128x2048 .f32) = x
      pointwise [k0_pay1]
    rw [first]
    refine ⟨hx, fun r l => step_at m c ⟨0, h⟩ _ hx _ r l ?_⟩
    refine Eq.trans ?_ (upTo_zero _).symm
    pointwise [k0_pay2]
  | succ n ih =>
    intro h h7
    obtain ⟨hx, ha⟩ := ih (Nat.lt_of_succ_lt h) (by omega)
    rw [middle m c n h (by omega) (by omega)]
    exact ⟨hx, fun r l => step_at m c ⟨n + 1, h⟩ _ hx _ r l (ha r l)⟩

/-- What the last point writes. -/
theorem written (n : ℕ) (h : n + 1 < cfg0.N) (h7 : n + 1 = 7) (r : Fin 128) (l : Fin 2048) :
    (outsAt0 m c (n + 1) h).1 (ix2 r l) = Ffn.row (X m c r) (WU m c) (WD m c) (G m c) (B m c) l := by
  obtain ⟨hx, ha⟩ := carried m c n (Nat.lt_of_succ_lt h) (by omega)
  have e : ∀ (x a : FVec Ideal S128x2048 .f32) (g b : FVec Ideal S1x2048 .f32), k0_pay4 (F := Ideal) x a g b (ix2 r l)
      = layerNorm (fun l => alpha * x (ix2 r l) + a (ix2 r l)) (g (ix2 0 l)) (b (ix2 0 l)) l := by
    intro x a g b
    unfold layerNorm mean alpha
    pointwise [k0_pay4]
  rw [last m c n h (by omega) (by omega), e, scale_at, shift_at]
  unfold Ffn.row
  congr 1
  funext l
  rw [rows_at]
  refine congrArg (_ + ·) ((step_at m c ⟨n + 1, h⟩ _ hx _ r l (ha r l)).trans ?_)
  exact (congrArg (upTo _) (show 1024 * (n + 1 + 1) = 8192 by omega)).trans (upTo_all _)

/-- The call's result at row `r`, place `l`. -/
theorem G5_apply (r : Fin 128) (l : Fin 2048) : G5 m c (ix2 r l) = Ffn.row (X m c r) (WU m c) (WD m c) (G m c) (B m c) l := by
  have hr := r.isLt
  have hl := l.isLt
  have hp : pt5Of (ix2 r l) = 7 := by
    show 8 * (1 * (r.val / 128 - 0) + 1 * (l.val / 2048 - 0)) + 7 = _
    omega
  have hb : pt5Of (ix2 r l) < cfg0.N := by rw [hp, show cfg0.N = 8 from N_0]; decide
  have hloc : loc5Of (ix2 r l) = ix2 r l := by
    funext a
    match a with
    | ⟨0, _⟩ => exact Fin.ext (Nat.mod_eq_of_lt hr)
    | ⟨1, _⟩ => exact Fin.ext (Nat.mod_eq_of_lt hl)
  unfold G5
  rw [dif_pos hb, ← outsAt0_sweep m c _ hb, hloc]
  generalize pt5Of (ix2 r l) = p at hp hb
  obtain ⟨n, rfl⟩ : ∃ n, p = n + 1 := ⟨p - 1, by omega⟩
  exact written m c n hb hp r l

end Cert.Kernel6Ideal.Value

namespace Cert.Layer.Sample

theorem frame_reference : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩)
    (Cert.Reference6Ideal.Value.run (F := Ideal) m ρ)

/-- The kernel's result array and the reference's hold the same rows. -/
theorem algebraic : Cert.algebraic_Kernel6Ideal_Reference6Ideal (hKernel6Ideal := Cert.Kernel6Ideal.Gen.facts)
    (hReference6Ideal := Cert.Reference6Ideal.Gen.facts) := by
  intro m ρ m' ρ' _ hagree
  refine ⟨fun c => Cert.Kernel6Ideal.Value.G5 m c, Cert.Kernel6Ideal.Value.run (F := Ideal) m ρ,
    (θ_run Cert.Reference6Ideal.defs _ _).mono (fun r h c => ⟨(h c).1.trans ?_, (h c).2⟩) (Cert.Reference6Ideal.Value.run (F := Ideal) m' ρ')⟩
  obtain ⟨h0, h1, h2, h3, h4⟩ := hagree c
  refine funext fun (i : Cert.Kernel6Ideal.S128x2048.Idx) => ?_
  rw [eq_ix2 i]
  refine (Cert.Reference6Ideal.Value.res_apply m' c (i 0) (i 1)).trans (Eq.trans ?_ (Cert.Kernel6Ideal.Value.G5_apply m c (i 0) (i 1)).symm)
  rw [h0, h1, h2, h3, h4]

end Cert.Layer.Sample

end
-- ==== Proof.Rows.lean ====
/-
  The input projection of the first layer on the sample's 128 rows: one block of rows, eight grid points, of which each
  multiplies the rows by 512 columns of the weights. The weights' 3864 columns are filled up with zeros to 4096.
-/
module

public import proofs.«01_k».proof.Defs
public import proofs.«01_k».proof.Proof.Gen.Kernel7Ideal.Value
public import proofs.«01_k».proof.Proof.Gen.Reference7Ideal.Run
public import Idealize.ShloMosaic.Lib.Pointwise

@[expose] public section

set_option maxRecDepth 16384

noncomputable section

open Idealize.ShloMosaic Idealize.ShloMosaic.TcCoe Idealize.SL.Sem

namespace Cert.Kernel7Ideal.Value

open Cert.Kernel7Ideal Cert.Kernel7Ideal.Gen Idealize.ShloMosaic.StableHlo

variable (m : (ℓ : Loc nD τ sig) → Buf (Elt Ideal) ℓ) (c : Dev nD)

/-- Row `r` of the rows with time first. -/
abbrev X (r : Fin 128) (k : Fin 2048) : EReal :=
  m (c.tc.loc main_arg0) (ix3 ⟨r.val % 32, Nat.mod_lt _ (by decide)⟩ ⟨r.val / 32, by have := r.isLt; omega⟩ k)

/-- The weights' column `l`, or zeros. -/
abbrev W (k : Fin 2048) (l : Fin 4096) : EReal := if h : l.val < 3864 then m (c.tc.loc main_arg1) (ix3 0 k ⟨l.val, h⟩) else 0

/-- What the call finds in the rows. -/
theorem found_rows (r : Fin 128) (k : Fin 2048) : (V m c main_v4 : S128x2048.Idx → EReal) (ix2 r k) = X m c r k := by
  unfold V hostOps0
  after_results
  pointwise

/-- What the call finds in the weights. -/
theorem found_weights (k : Fin 2048) (l : Fin 4096) : (V m c main_v2 : S2x2048x4096.Idx → EReal) (ix3 0 k l) = W m c k l := by
  unfold V hostOps0
  after_results
  pointwise

theorem lt_N (t : Fin cfg0.N) : t.val < 8 := lt_of_lt_of_eq t.isLt N_0

abbrev colOf (t : Fin cfg0.N) (j : Fin 512) : Fin 4096 := ⟨512 * t.val + j.val, by have := lt_N t; have := j.isLt; omega⟩

/-- Where the blocks lie. -/
theorem index_facts : ∀ t : Fin cfg0.N, win0_0.index t = ![0, 0] ∧ win0_1.index t = ![0, 0, t.val] :=
  (by decide +kernel : ∀ t : Fin grid0.N, _)

theorem rows_at (t : Fin cfg0.N) (r : Fin 128) (k : Fin 2048) : (iblk m c 0 t : FVec Ideal S128x2048 .f32) (ix2 r k) = X m c r k := by
  obtain ⟨hi, -⟩ := index_facts t
  rw [← found_rows]
  unfold iblk
  rw [View.read_apply]
  refine congrArg (V m c main_v4) (funext fun a => Fin.ext ?_)
  match a with
  | ⟨0, _⟩ => show win0_0.index t 0 * 128 + 1 * r.val = r.val; rw [hi]; show 0 * 128 + 1 * r.val = r.val; omega
  | ⟨1, _⟩ => show win0_0.index t 1 * 2048 + 1 * k.val = k.val; rw [hi]; show 0 * 2048 + 1 * k.val = k.val; omega

theorem weights_at (t : Fin cfg0.N) (k : Fin 2048) (j : Fin 512) : (iblk m c 1 t : FVec Ideal S1x2048x512 .bf16) (ix3 0 k j) = W m c k (colOf t j) := by
  obtain ⟨-, hi⟩ := index_facts t
  rw [← found_weights]
  unfold iblk
  rw [View.read_apply]
  refine congrArg (V m c main_v2) (funext fun a => Fin.ext ?_)
  match a with
  | ⟨0, _⟩ => show win0_1.index t 0 * 1 + 1 * 0 = 0; rw [hi]; rfl
  | ⟨1, _⟩ => show win0_1.index t 1 * 2048 + 1 * k.val = k.val; rw [hi]; show 0 * 2048 + 1 * k.val = k.val; omega
  | ⟨2, _⟩ => show win0_1.index t 2 * 512 + 1 * j.val = 512 * t.val + j.val; rw [hi]; show t.val * 512 + 1 * j.val = _; omega

theorem hz2 : (![0, 0] : Fin 2 → Nat) = fun _ => 0 := funext fun a => by fin_cases a <;> rfl
theorem hz3 : (![0, 0, 0] : Fin 3 → Nat) = fun _ => 0 := funext fun a => by fin_cases a <;> rfl

/-- The first point keeps the rows and writes their product with its columns. -/
theorem first (h : 0 < cfg0.N) :
    outsAt0 m c 0 h = (k0_pay2 (F := Ideal) (k0_pay1 (iblk m c 0 ⟨0, h⟩)) (iblk m c 1 ⟨0, h⟩), k0_pay1 (F := Ideal) (iblk m c 0 ⟨0, h⟩)) := by
  rw [outsAt0_A m c ⟨0, h⟩ rfl]
  refine Prod.ext ?_ ?_ <;> dsimp only
  · unfold out0_A_2
    refine (View.read_writes_eq_canon _ _ _ fun y => ?_).trans ?_
    · exact cover0_A_2 ..
    unfold kernelRun0_A
    dsimp only
    sl_unfold_words
    rw [View.canon_unit_zero hz2]
    simp only [View.readAt_eq_ld, View.readCov_unit_zero (S := S128x2048) _ hz2, (hs0_0 _).read_unread, (hs0_1 _).read_unread,
      View.ld_unit_zero (S := S128x2048) hz2, View.ld_unit_zero (S := S1x2048x512) hz3]
  · unfold sout0_A_0
    refine (View.read_writes_eq_canon _ _ _ fun y => ?_).trans ?_
    · exact scover0_A_0 ..
    unfold kernelRun0_A
    dsimp only
    sl_unfold_words
    rw [View.canon_unit_zero hz2]
    simp only [View.readAt_eq_ld, (hs0_0 _).read_unread, View.ld_unit_zero (S := S128x2048) hz2]

/-- A later point keeps the rows and writes their product with its columns. -/
theorem later (n : ℕ) (h : n + 1 < cfg0.N) (h0 : ¬(n + 1) % 8 = 0) :
    outsAt0 m c (n + 1) h = (k0_pay2 (F := Ideal) (outsAt0 m c n (Nat.lt_of_succ_lt h)).2 (iblk m c 1 ⟨n + 1, h⟩), (outsAt0 m c n (Nat.lt_of_succ_lt h)).2) := by
  rw [outsAt0_B m c ⟨n + 1, h⟩ h0]
  refine Prod.ext ?_ rfl
  dsimp only
  unfold out0_B_2
  refine (View.read_writes_eq_canon _ _ _ fun y => ?_).trans ?_
  · exact cover0_B_2 ..
  unfold kernelRun0_B
  dsimp only
  sl_unfold_words
  rw [View.canon_unit_zero hz2]
  simp only [View.readAt_eq_ld, (Memref.isWhole_whole _).read_unread, (hs0_1 _).read_unread,
    View.ld_unit_zero (S := S128x2048) hz2, View.ld_unit_zero (S := S1x2048x512) hz3]
  rfl

theorem product_at (xb : FVec Ideal S128x2048 .bf16) (t : Fin cfg0.N) (hx : ∀ r k, xb (ix2 r k) = X m c r k) (r : Fin 128) (j : Fin 512) :
    k0_pay2 (F := Ideal) xb (iblk m c 1 t) (ix2 r j) = ∑ k, X m c r k * W m c k (colOf t j) := by
  have e : ∀ w : FVec Ideal S1x2048x512 .bf16, k0_pay2 (F := Ideal) xb w (ix2 r j) = ∑ k, xb (ix2 r k) * w (ix3 0 k j) := by
    intro w
    pointwise [k0_pay2]
  rw [e]
  exact Finset.sum_congr rfl fun k _ => by rw [hx, weights_at]

/-- Each point writes the rows' product with its columns, and leaves the rows. -/
theorem written (n : ℕ) : ∀ h : n < cfg0.N, (∀ r j, (outsAt0 m c n h).1 (ix2 r j) = ∑ k, X m c r k * W m c k (colOf ⟨n, h⟩ j))
    ∧ ∀ r k, (outsAt0 m c n h).2 (ix2 r k) = X m c r k := by
  induction n with
  | zero =>
    intro h
    have hx : ∀ r k, k0_pay1 (F := Ideal) (iblk m c 0 ⟨0, h⟩) (ix2 r k) = X m c r k := fun r k => by
      rw [← rows_at m c ⟨0, h⟩]
      generalize (iblk m c 0 ⟨0, h⟩ : FVec Ideal S128x2048 .f32) = x
      pointwise [k0_pay1]
    rw [first]
    dsimp only
    generalize hb : k0_pay1 (F := Ideal) (iblk m c 0 ⟨0, h⟩) = xb at hx
    exact ⟨product_at m c xb ⟨0, h⟩ hx, hx⟩
  | succ n ih =>
    intro h
    have hx := (ih (Nat.lt_of_succ_lt h)).2
    have := lt_N ⟨n + 1, h⟩
    rw [later m c n h (by dsimp only at this; omega)]
    exact ⟨product_at m c _ ⟨n + 1, h⟩ hx, hx⟩

/-- The call's result at row `r`, place `l`. -/
theorem G2_apply (r : Fin 128) (l : Fin 4096) : G2 m c (ix2 r l) = ∑ k, X m c r k * W m c k l := by
  have hr := r.isLt
  have hl := l.isLt
  have hp : pt2Of (ix2 r l) = l.val / 512 := by
    show 8 * (r.val / 128 - 0) + 1 * (l.val / 512 - 0) = _
    omega
  have hb : pt2Of (ix2 r l) < cfg0.N := by rw [hp, show cfg0.N = 8 from N_0]; omega
  have hloc : loc2Of (ix2 r l) = ix2 r ⟨l.val % 512, Nat.mod_lt _ (by decide)⟩ := by
    funext a
    match a with
    | ⟨0, _⟩ => exact Fin.ext (Nat.mod_eq_of_lt hr)
    | ⟨1, _⟩ => rfl
  unfold G2
  rw [dif_pos hb, ← outsAt0_sweep m c _ hb, hloc]
  generalize pt2Of (ix2 r l) = p at hp hb
  rw [(written m c p hb).1]
  have e : colOf ⟨p, hb⟩ ⟨l.val % 512, Nat.mod_lt _ (by decide)⟩ = l := Fin.ext (by show 512 * p + l.val % 512 = l.val; omega)
  rw [e]

end Cert.Kernel7Ideal.Value

namespace Cert.Layer.Rows

open Cert.Reference7Ideal Cert.Reference7Ideal.Gen

theorem frame_reference : Cert.quiescent_Reference7Ideal (hReference7Ideal := Cert.Reference7Ideal.Gen.facts) := fun m ρ _ =>
  (θ_run Cert.Reference7Ideal.defs _ _).mono (fun r h => ⟨fun c => (h c).2, sem_eq_zero_of_no_sems (by decide) r.2⟩)
    (Cert.Reference7Ideal.Value.run (F := Ideal) m ρ)

/-- A product with filled-up weights is the filled-up product. -/
theorem filled (x : Fin 2048 → EReal) (w : Fin 2048 → Fin 3864 → EReal) (l : Fin 4096) :
    (∑ k, x k * if h : l.val < 3864 then w k ⟨l.val, h⟩ else 0) = if h : l.val < 3864 then ∑ k, x k * w k ⟨l.val, h⟩ else 0 := by
  by_cases h : l.val < 3864 <;> simp [h]

/-- The kernel's result array and the reference's hold the same rows. -/
theorem algebraic : Cert.algebraic_Kernel7Ideal_Reference7Ideal (hKernel7Ideal := Cert.Kernel7Ideal.Gen.facts)
    (hReference7Ideal := Cert.Reference7Ideal.Gen.facts) := by
  intro m ρ m' ρ' _ hagree
  refine ⟨fun c => Cert.Kernel7Ideal.Value.G2 m c, Cert.Kernel7Ideal.Value.run (F := Ideal) m ρ,
    (θ_run Cert.Reference7Ideal.defs _ _).mono (fun r h c => ⟨(h c).1.trans ?_, (h c).2⟩) (Cert.Reference7Ideal.Value.run (F := Ideal) m' ρ')⟩
  obtain ⟨h0, h1⟩ := hagree c
  refine funext fun (i : Cert.Kernel7Ideal.S128x4096.Idx) => ?_
  obtain ⟨r, l, rfl⟩ : ∃ (r : Fin 128) (l : Fin 4096), i = ix2 r l := ⟨i 0, i 1, eq_ix2 i⟩
  refine Eq.trans ?_ ((Cert.Kernel7Ideal.Value.G2_apply m c r l).trans (filled _ (fun k l => m (c.tc.loc Cert.Kernel7Ideal.main_arg1) (ix3 0 k l)) l)).symm
  rw [h0, h1]
  pointwise

end Cert.Layer.Rows

end
-- ==== Proof.lean ====
/-
  The proof of `Cert.Claim`: the frames are the generated runs, the value claims are read off the runs in the modules
  under Proof/.
-/
module

public import proofs.«01_k».proof.Defs
public import proofs.«01_k».proof.Proof.Gen.Kernel.Frame
public import proofs.«01_k».proof.Proof.Gen.KernelIdeal.Frame
public import proofs.«01_k».proof.Proof.Gen.Kernel2.Frame
public import proofs.«01_k».proof.Proof.Gen.Kernel2Ideal.Frame
public import proofs.«01_k».proof.Proof.Gen.Kernel3.Frame
public import proofs.«01_k».proof.Proof.Gen.Kernel3Ideal.Frame
public import proofs.«01_k».proof.Proof.Gen.Kernel4.Frame
public import proofs.«01_k».proof.Proof.Gen.Kernel4Ideal.Frame
public import proofs.«01_k».proof.Proof.Gen.Kernel5.Frame
public import proofs.«01_k».proof.Proof.Gen.Kernel5Ideal.Frame
public import proofs.«01_k».proof.Proof.Gen.Kernel6.Frame
public import proofs.«01_k».proof.Proof.Gen.Kernel6Ideal.Frame
public import proofs.«01_k».proof.Proof.Gen.Kernel7.Frame
public import proofs.«01_k».proof.Proof.Gen.Kernel7Ideal.Frame
public import proofs.«01_k».proof.Proof.Cmp
public import proofs.«01_k».proof.Proof.Ffn
public import proofs.«01_k».proof.Proof.Out
public import proofs.«01_k».proof.Proof.First
public import proofs.«01_k».proof.Proof.Sample
public import proofs.«01_k».proof.Proof.Rows

@[expose] public section

noncomputable section

open Idealize.ShloMosaic

namespace Cert.Proof

theorem preserves_mask : Cert.preserves_Kernel_KernelIdeal :=
  IdealRules.named_const.statement Cert.KernelIdeal.κ "mask" .f32 0xF149F2CA#32 ⊥ rfl

theorem claim : Cert.Claim :=
  ⟨Cert.Kernel.Gen.facts, Cert.KernelIdeal.Gen.facts, Cert.ReferenceIdeal.Gen.facts,
   Cert.Kernel2.Gen.facts, Cert.Kernel2Ideal.Gen.facts, Cert.Reference2Ideal.Gen.facts,
   Cert.Kernel3.Gen.facts, Cert.Kernel3Ideal.Gen.facts, Cert.Reference3Ideal.Gen.facts,
   Cert.Kernel4.Gen.facts, Cert.Kernel4Ideal.Gen.facts, Cert.Reference4Ideal.Gen.facts,
   Cert.Kernel5.Gen.facts, Cert.Kernel5Ideal.Gen.facts, Cert.Reference5Ideal.Gen.facts,
   Cert.Kernel6.Gen.facts, Cert.Kernel6Ideal.Gen.facts, Cert.Reference6Ideal.Gen.facts,
   Cert.Kernel7.Gen.facts, Cert.Kernel7Ideal.Gen.facts, Cert.Reference7Ideal.Gen.facts,
   Cert.Layer.Cmp.facts_finite, Cert.Layer.Cmp.facts_reachable,
   fun m ρ _ => Cert.Kernel.Gen.frame m ρ, fun m ρ _ => Cert.KernelIdeal.Gen.frame m ρ, fun m ρ _ => Cert.KernelIdeal.Gen.frame m ρ,
   Cert.Layer.Cmp.frame_reference, fun m ρ _ => Cert.Layer.Cmp.frame_reference m ρ trivial,
   fun m ρ _ => Cert.Kernel2.Gen.frame m ρ, fun m ρ _ => Cert.Kernel2Ideal.Gen.frame m ρ, Cert.Layer.Ffn.frame_reference,
   fun m ρ _ => Cert.Kernel3.Gen.frame m ρ, fun m ρ _ => Cert.Kernel3Ideal.Gen.frame m ρ, Cert.Layer.Out.frame_reference,
   fun m ρ _ => Cert.Kernel4.Gen.frame m ρ, fun m ρ _ => Cert.Kernel4Ideal.Gen.frame m ρ, Cert.Layer.First.ffn_frame_reference,
   fun m ρ _ => Cert.Kernel5.Gen.frame m ρ, fun m ρ _ => Cert.Kernel5Ideal.Gen.frame m ρ, Cert.Layer.First.out_frame_reference,
   fun m ρ _ => Cert.Kernel6.Gen.frame m ρ, fun m ρ _ => Cert.Kernel6Ideal.Gen.frame m ρ, Cert.Layer.Sample.frame_reference,
   fun m ρ _ => Cert.Kernel7.Gen.frame m ρ, fun m ρ _ => Cert.Kernel7Ideal.Gen.frame m ρ, Cert.Layer.Rows.frame_reference,
   preserves_mask, Cert.Layer.Cmp.algebraic, trivial, Cert.Layer.Ffn.algebraic, trivial, Cert.Layer.Out.algebraic,
   trivial, Cert.Layer.First.ffn_algebraic, trivial, Cert.Layer.First.out_algebraic,
   trivial, Cert.Layer.Sample.algebraic,
   trivial, Cert.Layer.Rows.algebraic⟩

end Cert.Proof

end
